-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![1024, 512]⟩ ⟨2, ![32768, 512]⟩ 0 32 c (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![1024, 512]⟩ ⟨2, ![32768, 512]⟩ 0 32 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1024x512 : Shape := ⟨2, ![1024, 512]⟩
abbrev S1x512 : Shape := ⟨2, ![1, 512]⟩
abbrev S32x1x512 : Shape := ⟨3, ![32, 1, 512]⟩
abbrev S31 : Shape := ⟨1, ![31]⟩
abbrev S32 : Shape := ⟨1, ![32]⟩
abbrev S_ : Shape := ⟨0, ![]⟩
abbrev S512 : Shape := ⟨1, ![512]⟩
abbrev S128x128 : Shape := ⟨2, ![128, 128]⟩
abbrev S128x512 : Shape := ⟨2, ![128, 512]⟩
abbrev S1 : Shape := ⟨1, ![1]⟩
abbrev S1x1x512 : Shape := ⟨3, ![1, 1, 512]⟩
abbrev S32x512 : Shape := ⟨2, ![32, 512]⟩

abbrev nBuf : Space → Nat
  | .hbm => 2
  | .vmem => 4
  | .smem => 0
  | _ => 0

abbrev bufTy : (tb : Table) → Fin (tcTables nBuf tb) → BufTy
  | .hbm, ⟨0, _⟩ => ⟨S1024x512, .f32⟩
  | .hbm, ⟨1, _⟩ => ⟨S1024x512, .f32⟩
  | .local _ .vmem, ⟨0, _⟩ => ⟨S1024x512, .f32⟩
  | .local _ .vmem, ⟨1, _⟩ => ⟨S1024x512, .f32⟩
  | .local _ .vmem, ⟨2, _⟩ => ⟨S1x512, .f32⟩
  | .local _ .vmem, ⟨3, _⟩ => ⟨S32x1x512, .f32⟩
  | _, _ => ⟨S1024x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 1 → Bool
  | ⟨0, _⟩ => false
  | _ => false

abbrev dmaSemScoped : Fin 65 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | _ => false

abbrev sig : RefSig :=
  (ofTc nBuf bufTy 1 65 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_sem0_0 : DmaSem sig := 0
abbrev cc0_sem1_0 : DmaSem sig := 1
abbrev barrier0 : Sem sig := 0

abbrev nD : Nat := 32
abbrev τ : Topo := Topo.v7x

variable {F : FTy → Type} [FloatOps F]

abbrev grid0 : Pipeline.Grid := .none

def k0_cond1 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v4 : BitVec 32 := Scalar.subi v2 c1_i32_0
  let c0_i32 : BitVec 32 := 0#32
  let v5 : BitVec 1 := Scalar.cmpi .sge v4 c0_i32
  let v6 : BitVec 32 := Scalar.extui v5
  let c0_i32_1 : BitVec 32 := 0#32
  let v7 : BitVec 1 := Scalar.cmpi .ne v6 c0_i32_1
  v7

def k0_dev1 (d0 : Dev nD) : Nat :=
  let c0_i32_452 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_449 : BitVec 32 := 1#32
  let v690 : BitVec 32 := Scalar.subi v2 c1_i32_449
  let c1_i32_451 : BitVec 32 := 1#32
  let v691 : BitVec 32 := Scalar.muli v690 c1_i32_451
  let v692 : BitVec 32 := Scalar.addi c0_i32_452 v691
  v692.toNat
def k0_cond2 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32 : BitVec 32 := 2#32
  let v8 : BitVec 32 := Scalar.subi v2 c2_i32
  let c0_i32_2 : BitVec 32 := 0#32
  let v9 : BitVec 1 := Scalar.cmpi .sge v8 c0_i32_2
  let v10 : BitVec 32 := Scalar.extui v9
  let c0_i32_3 : BitVec 32 := 0#32
  let v11 : BitVec 1 := Scalar.cmpi .ne v10 c0_i32_3
  v11

def k0_dev2 (d0 : Dev nD) : Nat :=
  let c0_i32_452 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_449 : BitVec 32 := 2#32
  let v690 : BitVec 32 := Scalar.subi v2 c2_i32_449
  let c1_i32_451 : BitVec 32 := 1#32
  let v691 : BitVec 32 := Scalar.muli v690 c1_i32_451
  let v692 : BitVec 32 := Scalar.addi c0_i32_452 v691
  v692.toNat
def k0_cond3 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32 : BitVec 32 := 3#32
  let v12 : BitVec 32 := Scalar.subi v2 c3_i32
  let c0_i32_4 : BitVec 32 := 0#32
  let v13 : BitVec 1 := Scalar.cmpi .sge v12 c0_i32_4
  let v14 : BitVec 32 := Scalar.extui v13
  let c0_i32_5 : BitVec 32 := 0#32
  let v15 : BitVec 1 := Scalar.cmpi .ne v14 c0_i32_5
  v15

def k0_dev3 (d0 : Dev nD) : Nat :=
  let c0_i32_452 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_449 : BitVec 32 := 3#32
  let v690 : BitVec 32 := Scalar.subi v2 c3_i32_449
  let c1_i32_451 : BitVec 32 := 1#32
  let v691 : BitVec 32 := Scalar.muli v690 c1_i32_451
  let v692 : BitVec 32 := Scalar.addi c0_i32_452 v691
  v692.toNat
def k0_cond4 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32 : BitVec 32 := 4#32
  let v16 : BitVec 32 := Scalar.subi v2 c4_i32
  let c0_i32_6 : BitVec 32 := 0#32
  let v17 : BitVec 1 := Scalar.cmpi .sge v16 c0_i32_6
  let v18 : BitVec 32 := Scalar.extui v17
  let c0_i32_7 : BitVec 32 := 0#32
  let v19 : BitVec 1 := Scalar.cmpi .ne v18 c0_i32_7
  v19

def k0_dev4 (d0 : Dev nD) : Nat :=
  let c0_i32_452 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_449 : BitVec 32 := 4#32
  let v690 : BitVec 32 := Scalar.subi v2 c4_i32_449
  let c1_i32_451 : BitVec 32 := 1#32
  let v691 : BitVec 32 := Scalar.muli v690 c1_i32_451
  let v692 : BitVec 32 := Scalar.addi c0_i32_452 v691
  v692.toNat
def k0_cond5 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32 : BitVec 32 := 5#32
  let v20 : BitVec 32 := Scalar.subi v2 c5_i32
  let c0_i32_8 : BitVec 32 := 0#32
  let v21 : BitVec 1 := Scalar.cmpi .sge v20 c0_i32_8
  let v22 : BitVec 32 := Scalar.extui v21
  let c0_i32_9 : BitVec 32 := 0#32
  let v23 : BitVec 1 := Scalar.cmpi .ne v22 c0_i32_9
  v23

def k0_dev5 (d0 : Dev nD) : Nat :=
  let c0_i32_452 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_449 : BitVec 32 := 5#32
  let v690 : BitVec 32 := Scalar.subi v2 c5_i32_449
  let c1_i32_451 : BitVec 32 := 1#32
  let v691 : BitVec 32 := Scalar.muli v690 c1_i32_451
  let v692 : BitVec 32 := Scalar.addi c0_i32_452 v691
  v692.toNat
def k0_cond6 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32 : BitVec 32 := 6#32
  let v24 : BitVec 32 := Scalar.subi v2 c6_i32
  let c0_i32_10 : BitVec 32 := 0#32
  let v25 : BitVec 1 := Scalar.cmpi .sge v24 c0_i32_10
  let v26 : BitVec 32 := Scalar.extui v25
  let c0_i32_11 : BitVec 32 := 0#32
  let v27 : BitVec 1 := Scalar.cmpi .ne v26 c0_i32_11
  v27

def k0_dev6 (d0 : Dev nD) : Nat :=
  let c0_i32_452 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_449 : BitVec 32 := 6#32
  let v690 : BitVec 32 := Scalar.subi v2 c6_i32_449
  let c1_i32_451 : BitVec 32 := 1#32
  let v691 : BitVec 32 := Scalar.muli v690 c1_i32_451
  let v692 : BitVec 32 := Scalar.addi c0_i32_452 v691
  v692.toNat
def k0_cond7 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32 : BitVec 32 := 7#32
  let v28 : BitVec 32 := Scalar.subi v2 c7_i32
  let c0_i32_12 : BitVec 32 := 0#32
  let v29 : BitVec 1 := Scalar.cmpi .sge v28 c0_i32_12
  let v30 : BitVec 32 := Scalar.extui v29
  let c0_i32_13 : BitVec 32 := 0#32
  let v31 : BitVec 1 := Scalar.cmpi .ne v30 c0_i32_13
  v31

def k0_dev7 (d0 : Dev nD) : Nat :=
  let c0_i32_452 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_449 : BitVec 32 := 7#32
  let v690 : BitVec 32 := Scalar.subi v2 c7_i32_449
  let c1_i32_451 : BitVec 32 := 1#32
  let v691 : BitVec 32 := Scalar.muli v690 c1_i32_451
  let v692 : BitVec 32 := Scalar.addi c0_i32_452 v691
  v692.toNat
def k0_cond8 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v32 : BitVec 32 := Scalar.subi v2 c8_i32
  let c0_i32_14 : BitVec 32 := 0#32
  let v33 : BitVec 1 := Scalar.cmpi .sge v32 c0_i32_14
  let v34 : BitVec 32 := Scalar.extui v33
  let c0_i32_15 : BitVec 32 := 0#32
  let v35 : BitVec 1 := Scalar.cmpi .ne v34 c0_i32_15
  v35

def k0_dev8 (d0 : Dev nD) : Nat :=
  let c0_i32_452 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_449 : BitVec 32 := 8#32
  let v690 : BitVec 32 := Scalar.subi v2 c8_i32_449
  let c1_i32_451 : BitVec 32 := 1#32
  let v691 : BitVec 32 := Scalar.muli v690 c1_i32_451
  let v692 : BitVec 32 := Scalar.addi c0_i32_452 v691
  v692.toNat
def k0_cond9 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32 : BitVec 32 := 9#32
  let v36 : BitVec 32 := Scalar.subi v2 c9_i32
  let c0_i32_16 : BitVec 32 := 0#32
  let v37 : BitVec 1 := Scalar.cmpi .sge v36 c0_i32_16
  let v38 : BitVec 32 := Scalar.extui v37
  let c0_i32_17 : BitVec 32 := 0#32
  let v39 : BitVec 1 := Scalar.cmpi .ne v38 c0_i32_17
  v39

def k0_dev9 (d0 : Dev nD) : Nat :=
  let c0_i32_452 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32_449 : BitVec 32 := 9#32
  let v690 : BitVec 32 := Scalar.subi v2 c9_i32_449
  let c1_i32_451 : BitVec 32 := 1#32
  let v691 : BitVec 32 := Scalar.muli v690 c1_i32_451
  let v692 : BitVec 32 := Scalar.addi c0_i32_452 v691
  v692.toNat
def k0_cond10 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32 : BitVec 32 := 10#32
  let v40 : BitVec 32 := Scalar.subi v2 c10_i32
  let c0_i32_18 : BitVec 32 := 0#32
  let v41 : BitVec 1 := Scalar.cmpi .sge v40 c0_i32_18
  let v42 : BitVec 32 := Scalar.extui v41
  let c0_i32_19 : BitVec 32 := 0#32
  let v43 : BitVec 1 := Scalar.cmpi .ne v42 c0_i32_19
  v43

def k0_dev10 (d0 : Dev nD) : Nat :=
  let c0_i32_452 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32_449 : BitVec 32 := 10#32
  let v690 : BitVec 32 := Scalar.subi v2 c10_i32_449
  let c1_i32_451 : BitVec 32 := 1#32
  let v691 : BitVec 32 := Scalar.muli v690 c1_i32_451
  let v692 : BitVec 32 := Scalar.addi c0_i32_452 v691
  v692.toNat
def k0_cond11 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32 : BitVec 32 := 11#32
  let v44 : BitVec 32 := Scalar.subi v2 c11_i32
  let c0_i32_20 : BitVec 32 := 0#32
  let v45 : BitVec 1 := Scalar.cmpi .sge v44 c0_i32_20
  let v46 : BitVec 32 := Scalar.extui v45
  let c0_i32_21 : BitVec 32 := 0#32
  let v47 : BitVec 1 := Scalar.cmpi .ne v46 c0_i32_21
  v47

def k0_dev11 (d0 : Dev nD) : Nat :=
  let c0_i32_452 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32_449 : BitVec 32 := 11#32
  let v690 : BitVec 32 := Scalar.subi v2 c11_i32_449
  let c1_i32_451 : BitVec 32 := 1#32
  let v691 : BitVec 32 := Scalar.muli v690 c1_i32_451
  let v692 : BitVec 32 := Scalar.addi c0_i32_452 v691
  v692.toNat
def k0_cond12 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32 : BitVec 32 := 12#32
  let v48 : BitVec 32 := Scalar.subi v2 c12_i32
  let c0_i32_22 : BitVec 32 := 0#32
  let v49 : BitVec 1 := Scalar.cmpi .sge v48 c0_i32_22
  let v50 : BitVec 32 := Scalar.extui v49
  let c0_i32_23 : BitVec 32 := 0#32
  let v51 : BitVec 1 := Scalar.cmpi .ne v50 c0_i32_23
  v51

def k0_dev12 (d0 : Dev nD) : Nat :=
  let c0_i32_452 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32_449 : BitVec 32 := 12#32
  let v690 : BitVec 32 := Scalar.subi v2 c12_i32_449
  let c1_i32_451 : BitVec 32 := 1#32
  let v691 : BitVec 32 := Scalar.muli v690 c1_i32_451
  let v692 : BitVec 32 := Scalar.addi c0_i32_452 v691
  v692.toNat
def k0_cond13 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32 : BitVec 32 := 13#32
  let v52 : BitVec 32 := Scalar.subi v2 c13_i32
  let c0_i32_24 : BitVec 32 := 0#32
  let v53 : BitVec 1 := Scalar.cmpi .sge v52 c0_i32_24
  let v54 : BitVec 32 := Scalar.extui v53
  let c0_i32_25 : BitVec 32 := 0#32
  let v55 : BitVec 1 := Scalar.cmpi .ne v54 c0_i32_25
  v55

def k0_dev13 (d0 : Dev nD) : Nat :=
  let c0_i32_452 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32_449 : BitVec 32 := 13#32
  let v690 : BitVec 32 := Scalar.subi v2 c13_i32_449
  let c1_i32_451 : BitVec 32 := 1#32
  let v691 : BitVec 32 := Scalar.muli v690 c1_i32_451
  let v692 : BitVec 32 := Scalar.addi c0_i32_452 v691
  v692.toNat
def k0_cond14 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32 : BitVec 32 := 14#32
  let v56 : BitVec 32 := Scalar.subi v2 c14_i32
  let c0_i32_26 : BitVec 32 := 0#32
  let v57 : BitVec 1 := Scalar.cmpi .sge v56 c0_i32_26
  let v58 : BitVec 32 := Scalar.extui v57
  let c0_i32_27 : BitVec 32 := 0#32
  let v59 : BitVec 1 := Scalar.cmpi .ne v58 c0_i32_27
  v59

def k0_dev14 (d0 : Dev nD) : Nat :=
  let c0_i32_452 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32_449 : BitVec 32 := 14#32
  let v690 : BitVec 32 := Scalar.subi v2 c14_i32_449
  let c1_i32_451 : BitVec 32 := 1#32
  let v691 : BitVec 32 := Scalar.muli v690 c1_i32_451
  let v692 : BitVec 32 := Scalar.addi c0_i32_452 v691
  v692.toNat
def k0_cond15 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32 : BitVec 32 := 15#32
  let v60 : BitVec 32 := Scalar.subi v2 c15_i32
  let c0_i32_28 : BitVec 32 := 0#32
  let v61 : BitVec 1 := Scalar.cmpi .sge v60 c0_i32_28
  let v62 : BitVec 32 := Scalar.extui v61
  let c0_i32_29 : BitVec 32 := 0#32
  let v63 : BitVec 1 := Scalar.cmpi .ne v62 c0_i32_29
  v63

def k0_dev15 (d0 : Dev nD) : Nat :=
  let c0_i32_452 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32_449 : BitVec 32 := 15#32
  let v690 : BitVec 32 := Scalar.subi v2 c15_i32_449
  let c1_i32_451 : BitVec 32 := 1#32
  let v691 : BitVec 32 := Scalar.muli v690 c1_i32_451
  let v692 : BitVec 32 := Scalar.addi c0_i32_452 v691
  v692.toNat
def k0_cond16 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32 : BitVec 32 := 16#32
  let v64 : BitVec 32 := Scalar.subi v2 c16_i32
  let c0_i32_30 : BitVec 32 := 0#32
  let v65 : BitVec 1 := Scalar.cmpi .sge v64 c0_i32_30
  let v66 : BitVec 32 := Scalar.extui v65
  let c0_i32_31 : BitVec 32 := 0#32
  let v67 : BitVec 1 := Scalar.cmpi .ne v66 c0_i32_31
  v67

def k0_dev16 (d0 : Dev nD) : Nat :=
  let c0_i32_452 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_449 : BitVec 32 := 16#32
  let v690 : BitVec 32 := Scalar.subi v2 c16_i32_449
  let c1_i32_451 : BitVec 32 := 1#32
  let v691 : BitVec 32 := Scalar.muli v690 c1_i32_451
  let v692 : BitVec 32 := Scalar.addi c0_i32_452 v691
  v692.toNat
def k0_cond17 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32 : BitVec 32 := 17#32
  let v68 : BitVec 32 := Scalar.subi v2 c17_i32
  let c0_i32_32 : BitVec 32 := 0#32
  let v69 : BitVec 1 := Scalar.cmpi .sge v68 c0_i32_32
  let v70 : BitVec 32 := Scalar.extui v69
  let c0_i32_33 : BitVec 32 := 0#32
  let v71 : BitVec 1 := Scalar.cmpi .ne v70 c0_i32_33
  v71

def k0_dev17 (d0 : Dev nD) : Nat :=
  let c0_i32_452 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32_449 : BitVec 32 := 17#32
  let v690 : BitVec 32 := Scalar.subi v2 c17_i32_449
  let c1_i32_451 : BitVec 32 := 1#32
  let v691 : BitVec 32 := Scalar.muli v690 c1_i32_451
  let v692 : BitVec 32 := Scalar.addi c0_i32_452 v691
  v692.toNat
def k0_cond18 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32 : BitVec 32 := 18#32
  let v72 : BitVec 32 := Scalar.subi v2 c18_i32
  let c0_i32_34 : BitVec 32 := 0#32
  let v73 : BitVec 1 := Scalar.cmpi .sge v72 c0_i32_34
  let v74 : BitVec 32 := Scalar.extui v73
  let c0_i32_35 : BitVec 32 := 0#32
  let v75 : BitVec 1 := Scalar.cmpi .ne v74 c0_i32_35
  v75

def k0_dev18 (d0 : Dev nD) : Nat :=
  let c0_i32_452 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32_449 : BitVec 32 := 18#32
  let v690 : BitVec 32 := Scalar.subi v2 c18_i32_449
  let c1_i32_451 : BitVec 32 := 1#32
  let v691 : BitVec 32 := Scalar.muli v690 c1_i32_451
  let v692 : BitVec 32 := Scalar.addi c0_i32_452 v691
  v692.toNat
def k0_cond19 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32 : BitVec 32 := 19#32
  let v76 : BitVec 32 := Scalar.subi v2 c19_i32
  let c0_i32_36 : BitVec 32 := 0#32
  let v77 : BitVec 1 := Scalar.cmpi .sge v76 c0_i32_36
  let v78 : BitVec 32 := Scalar.extui v77
  let c0_i32_37 : BitVec 32 := 0#32
  let v79 : BitVec 1 := Scalar.cmpi .ne v78 c0_i32_37
  v79

def k0_dev19 (d0 : Dev nD) : Nat :=
  let c0_i32_452 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32_449 : BitVec 32 := 19#32
  let v690 : BitVec 32 := Scalar.subi v2 c19_i32_449
  let c1_i32_451 : BitVec 32 := 1#32
  let v691 : BitVec 32 := Scalar.muli v690 c1_i32_451
  let v692 : BitVec 32 := Scalar.addi c0_i32_452 v691
  v692.toNat
def k0_cond20 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32 : BitVec 32 := 20#32
  let v80 : BitVec 32 := Scalar.subi v2 c20_i32
  let c0_i32_38 : BitVec 32 := 0#32
  let v81 : BitVec 1 := Scalar.cmpi .sge v80 c0_i32_38
  let v82 : BitVec 32 := Scalar.extui v81
  let c0_i32_39 : BitVec 32 := 0#32
  let v83 : BitVec 1 := Scalar.cmpi .ne v82 c0_i32_39
  v83

def k0_dev20 (d0 : Dev nD) : Nat :=
  let c0_i32_452 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32_449 : BitVec 32 := 20#32
  let v690 : BitVec 32 := Scalar.subi v2 c20_i32_449
  let c1_i32_451 : BitVec 32 := 1#32
  let v691 : BitVec 32 := Scalar.muli v690 c1_i32_451
  let v692 : BitVec 32 := Scalar.addi c0_i32_452 v691
  v692.toNat
def k0_cond21 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32 : BitVec 32 := 21#32
  let v84 : BitVec 32 := Scalar.subi v2 c21_i32
  let c0_i32_40 : BitVec 32 := 0#32
  let v85 : BitVec 1 := Scalar.cmpi .sge v84 c0_i32_40
  let v86 : BitVec 32 := Scalar.extui v85
  let c0_i32_41 : BitVec 32 := 0#32
  let v87 : BitVec 1 := Scalar.cmpi .ne v86 c0_i32_41
  v87

def k0_dev21 (d0 : Dev nD) : Nat :=
  let c0_i32_452 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32_449 : BitVec 32 := 21#32
  let v690 : BitVec 32 := Scalar.subi v2 c21_i32_449
  let c1_i32_451 : BitVec 32 := 1#32
  let v691 : BitVec 32 := Scalar.muli v690 c1_i32_451
  let v692 : BitVec 32 := Scalar.addi c0_i32_452 v691
  v692.toNat
def k0_cond22 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32 : BitVec 32 := 22#32
  let v88 : BitVec 32 := Scalar.subi v2 c22_i32
  let c0_i32_42 : BitVec 32 := 0#32
  let v89 : BitVec 1 := Scalar.cmpi .sge v88 c0_i32_42
  let v90 : BitVec 32 := Scalar.extui v89
  let c0_i32_43 : BitVec 32 := 0#32
  let v91 : BitVec 1 := Scalar.cmpi .ne v90 c0_i32_43
  v91

def k0_dev22 (d0 : Dev nD) : Nat :=
  let c0_i32_452 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32_449 : BitVec 32 := 22#32
  let v690 : BitVec 32 := Scalar.subi v2 c22_i32_449
  let c1_i32_451 : BitVec 32 := 1#32
  let v691 : BitVec 32 := Scalar.muli v690 c1_i32_451
  let v692 : BitVec 32 := Scalar.addi c0_i32_452 v691
  v692.toNat
def k0_cond23 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32 : BitVec 32 := 23#32
  let v92 : BitVec 32 := Scalar.subi v2 c23_i32
  let c0_i32_44 : BitVec 32 := 0#32
  let v93 : BitVec 1 := Scalar.cmpi .sge v92 c0_i32_44
  let v94 : BitVec 32 := Scalar.extui v93
  let c0_i32_45 : BitVec 32 := 0#32
  let v95 : BitVec 1 := Scalar.cmpi .ne v94 c0_i32_45
  v95

def k0_dev23 (d0 : Dev nD) : Nat :=
  let c0_i32_452 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32_449 : BitVec 32 := 23#32
  let v690 : BitVec 32 := Scalar.subi v2 c23_i32_449
  let c1_i32_451 : BitVec 32 := 1#32
  let v691 : BitVec 32 := Scalar.muli v690 c1_i32_451
  let v692 : BitVec 32 := Scalar.addi c0_i32_452 v691
  v692.toNat
def k0_cond24 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32 : BitVec 32 := 24#32
  let v96 : BitVec 32 := Scalar.subi v2 c24_i32
  let c0_i32_46 : BitVec 32 := 0#32
  let v97 : BitVec 1 := Scalar.cmpi .sge v96 c0_i32_46
  let v98 : BitVec 32 := Scalar.extui v97
  let c0_i32_47 : BitVec 32 := 0#32
  let v99 : BitVec 1 := Scalar.cmpi .ne v98 c0_i32_47
  v99

def k0_dev24 (d0 : Dev nD) : Nat :=
  let c0_i32_452 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_449 : BitVec 32 := 24#32
  let v690 : BitVec 32 := Scalar.subi v2 c24_i32_449
  let c1_i32_451 : BitVec 32 := 1#32
  let v691 : BitVec 32 := Scalar.muli v690 c1_i32_451
  let v692 : BitVec 32 := Scalar.addi c0_i32_452 v691
  v692.toNat
def k0_cond25 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32 : BitVec 32 := 25#32
  let v100 : BitVec 32 := Scalar.subi v2 c25_i32
  let c0_i32_48 : BitVec 32 := 0#32
  let v101 : BitVec 1 := Scalar.cmpi .sge v100 c0_i32_48
  let v102 : BitVec 32 := Scalar.extui v101
  let c0_i32_49 : BitVec 32 := 0#32
  let v103 : BitVec 1 := Scalar.cmpi .ne v102 c0_i32_49
  v103

def k0_dev25 (d0 : Dev nD) : Nat :=
  let c0_i32_452 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32_449 : BitVec 32 := 25#32
  let v690 : BitVec 32 := Scalar.subi v2 c25_i32_449
  let c1_i32_451 : BitVec 32 := 1#32
  let v691 : BitVec 32 := Scalar.muli v690 c1_i32_451
  let v692 : BitVec 32 := Scalar.addi c0_i32_452 v691
  v692.toNat
def k0_cond26 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32 : BitVec 32 := 26#32
  let v104 : BitVec 32 := Scalar.subi v2 c26_i32
  let c0_i32_50 : BitVec 32 := 0#32
  let v105 : BitVec 1 := Scalar.cmpi .sge v104 c0_i32_50
  let v106 : BitVec 32 := Scalar.extui v105
  let c0_i32_51 : BitVec 32 := 0#32
  let v107 : BitVec 1 := Scalar.cmpi .ne v106 c0_i32_51
  v107

def k0_dev26 (d0 : Dev nD) : Nat :=
  let c0_i32_452 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32_449 : BitVec 32 := 26#32
  let v690 : BitVec 32 := Scalar.subi v2 c26_i32_449
  let c1_i32_451 : BitVec 32 := 1#32
  let v691 : BitVec 32 := Scalar.muli v690 c1_i32_451
  let v692 : BitVec 32 := Scalar.addi c0_i32_452 v691
  v692.toNat
def k0_cond27 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32 : BitVec 32 := 27#32
  let v108 : BitVec 32 := Scalar.subi v2 c27_i32
  let c0_i32_52 : BitVec 32 := 0#32
  let v109 : BitVec 1 := Scalar.cmpi .sge v108 c0_i32_52
  let v110 : BitVec 32 := Scalar.extui v109
  let c0_i32_53 : BitVec 32 := 0#32
  let v111 : BitVec 1 := Scalar.cmpi .ne v110 c0_i32_53
  v111

def k0_dev27 (d0 : Dev nD) : Nat :=
  let c0_i32_452 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32_449 : BitVec 32 := 27#32
  let v690 : BitVec 32 := Scalar.subi v2 c27_i32_449
  let c1_i32_451 : BitVec 32 := 1#32
  let v691 : BitVec 32 := Scalar.muli v690 c1_i32_451
  let v692 : BitVec 32 := Scalar.addi c0_i32_452 v691
  v692.toNat
def k0_cond28 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32 : BitVec 32 := 28#32
  let v112 : BitVec 32 := Scalar.subi v2 c28_i32
  let c0_i32_54 : BitVec 32 := 0#32
  let v113 : BitVec 1 := Scalar.cmpi .sge v112 c0_i32_54
  let v114 : BitVec 32 := Scalar.extui v113
  let c0_i32_55 : BitVec 32 := 0#32
  let v115 : BitVec 1 := Scalar.cmpi .ne v114 c0_i32_55
  v115

def k0_dev28 (d0 : Dev nD) : Nat :=
  let c0_i32_452 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32_449 : BitVec 32 := 28#32
  let v690 : BitVec 32 := Scalar.subi v2 c28_i32_449
  let c1_i32_451 : BitVec 32 := 1#32
  let v691 : BitVec 32 := Scalar.muli v690 c1_i32_451
  let v692 : BitVec 32 := Scalar.addi c0_i32_452 v691
  v692.toNat
def k0_cond29 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32 : BitVec 32 := 29#32
  let v116 : BitVec 32 := Scalar.subi v2 c29_i32
  let c0_i32_56 : BitVec 32 := 0#32
  let v117 : BitVec 1 := Scalar.cmpi .sge v116 c0_i32_56
  let v118 : BitVec 32 := Scalar.extui v117
  let c0_i32_57 : BitVec 32 := 0#32
  let v119 : BitVec 1 := Scalar.cmpi .ne v118 c0_i32_57
  v119

def k0_dev29 (d0 : Dev nD) : Nat :=
  let c0_i32_452 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32_449 : BitVec 32 := 29#32
  let v690 : BitVec 32 := Scalar.subi v2 c29_i32_449
  let c1_i32_451 : BitVec 32 := 1#32
  let v691 : BitVec 32 := Scalar.muli v690 c1_i32_451
  let v692 : BitVec 32 := Scalar.addi c0_i32_452 v691
  v692.toNat
def k0_cond30 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32 : BitVec 32 := 30#32
  let v120 : BitVec 32 := Scalar.subi v2 c30_i32
  let c0_i32_58 : BitVec 32 := 0#32
  let v121 : BitVec 1 := Scalar.cmpi .sge v120 c0_i32_58
  let v122 : BitVec 32 := Scalar.extui v121
  let c0_i32_59 : BitVec 32 := 0#32
  let v123 : BitVec 1 := Scalar.cmpi .ne v122 c0_i32_59
  v123

def k0_dev30 (d0 : Dev nD) : Nat :=
  let c0_i32_452 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32_449 : BitVec 32 := 30#32
  let v690 : BitVec 32 := Scalar.subi v2 c30_i32_449
  let c1_i32_451 : BitVec 32 := 1#32
  let v691 : BitVec 32 := Scalar.muli v690 c1_i32_451
  let v692 : BitVec 32 := Scalar.addi c0_i32_452 v691
  v692.toNat
def k0_cond31 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32 : BitVec 32 := 31#32
  let v124 : BitVec 32 := Scalar.subi v2 c31_i32
  let c0_i32_60 : BitVec 32 := 0#32
  let v125 : BitVec 1 := Scalar.cmpi .sge v124 c0_i32_60
  let v126 : BitVec 32 := Scalar.extui v125
  let c0_i32_61 : BitVec 32 := 0#32
  let v127 : BitVec 1 := Scalar.cmpi .ne v126 c0_i32_61
  v127

def k0_dev31 (d0 : Dev nD) : Nat :=
  let c0_i32_452 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_449 : BitVec 32 := 31#32
  let v690 : BitVec 32 := Scalar.subi v2 c31_i32_449
  let c1_i32_451 : BitVec 32 := 1#32
  let v691 : BitVec 32 := Scalar.muli v690 c1_i32_451
  let v692 : BitVec 32 := Scalar.addi c0_i32_452 v691
  v692.toNat
def k0_cond63 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_184 : BitVec 32 := 1#32
  let v319 : BitVec 32 := Scalar.addi v2 c1_i32_184
  let c32_i32_185 : BitVec 32 := 32#32
  let v320 : BitVec 1 := Scalar.cmpi .slt v319 c32_i32_185
  let v321 : BitVec 32 := Scalar.extui v320
  let c0_i32_186 : BitVec 32 := 0#32
  let v322 : BitVec 1 := Scalar.cmpi .ne v321 c0_i32_186
  v322

def k0_off1 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off2 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_453 : BitVec 32 := 0#32
  let c0_i32_454 : BitVec 32 := 0#32
  ![v2.toNat, 0, 0]
def k0_dev32 (d0 : Dev nD) : Nat :=
  let c0_i32_452 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_449 : BitVec 32 := 1#32
  let v690 : BitVec 32 := Scalar.addi v2 c1_i32_449
  let c1_i32_451 : BitVec 32 := 1#32
  let v691 : BitVec 32 := Scalar.muli v690 c1_i32_451
  let v692 : BitVec 32 := Scalar.addi c0_i32_452 v691
  v692.toNat
def k0_cond64 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_187 : BitVec 32 := 2#32
  let v323 : BitVec 32 := Scalar.addi v2 c2_i32_187
  let c32_i32_188 : BitVec 32 := 32#32
  let v324 : BitVec 1 := Scalar.cmpi .slt v323 c32_i32_188
  let v325 : BitVec 32 := Scalar.extui v324
  let c0_i32_189 : BitVec 32 := 0#32
  let v326 : BitVec 1 := Scalar.cmpi .ne v325 c0_i32_189
  v326

def k0_off3 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off4 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_453 : BitVec 32 := 0#32
  let c0_i32_454 : BitVec 32 := 0#32
  ![v2.toNat, 0, 0]
def k0_dev33 (d0 : Dev nD) : Nat :=
  let c0_i32_452 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_449 : BitVec 32 := 2#32
  let v690 : BitVec 32 := Scalar.addi v2 c2_i32_449
  let c1_i32_451 : BitVec 32 := 1#32
  let v691 : BitVec 32 := Scalar.muli v690 c1_i32_451
  let v692 : BitVec 32 := Scalar.addi c0_i32_452 v691
  v692.toNat
def k0_cond65 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_190 : BitVec 32 := 3#32
  let v327 : BitVec 32 := Scalar.addi v2 c3_i32_190
  let c32_i32_191 : BitVec 32 := 32#32
  let v328 : BitVec 1 := Scalar.cmpi .slt v327 c32_i32_191
  let v329 : BitVec 32 := Scalar.extui v328
  let c0_i32_192 : BitVec 32 := 0#32
  let v330 : BitVec 1 := Scalar.cmpi .ne v329 c0_i32_192
  v330

def k0_off5 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off6 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_453 : BitVec 32 := 0#32
  let c0_i32_454 : BitVec 32 := 0#32
  ![v2.toNat, 0, 0]
def k0_dev34 (d0 : Dev nD) : Nat :=
  let c0_i32_452 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_449 : BitVec 32 := 3#32
  let v690 : BitVec 32 := Scalar.addi v2 c3_i32_449
  let c1_i32_451 : BitVec 32 := 1#32
  let v691 : BitVec 32 := Scalar.muli v690 c1_i32_451
  let v692 : BitVec 32 := Scalar.addi c0_i32_452 v691
  v692.toNat
def k0_cond66 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_193 : BitVec 32 := 4#32
  let v331 : BitVec 32 := Scalar.addi v2 c4_i32_193
  let c32_i32_194 : BitVec 32 := 32#32
  let v332 : BitVec 1 := Scalar.cmpi .slt v331 c32_i32_194
  let v333 : BitVec 32 := Scalar.extui v332
  let c0_i32_195 : BitVec 32 := 0#32
  let v334 : BitVec 1 := Scalar.cmpi .ne v333 c0_i32_195
  v334

def k0_off7 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off8 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_453 : BitVec 32 := 0#32
  let c0_i32_454 : BitVec 32 := 0#32
  ![v2.toNat, 0, 0]
def k0_dev35 (d0 : Dev nD) : Nat :=
  let c0_i32_452 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_449 : BitVec 32 := 4#32
  let v690 : BitVec 32 := Scalar.addi v2 c4_i32_449
  let c1_i32_451 : BitVec 32 := 1#32
  let v691 : BitVec 32 := Scalar.muli v690 c1_i32_451
  let v692 : BitVec 32 := Scalar.addi c0_i32_452 v691
  v692.toNat
def k0_cond67 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_196 : BitVec 32 := 5#32
  let v335 : BitVec 32 := Scalar.addi v2 c5_i32_196
  let c32_i32_197 : BitVec 32 := 32#32
  let v336 : BitVec 1 := Scalar.cmpi .slt v335 c32_i32_197
  let v337 : BitVec 32 := Scalar.extui v336
  let c0_i32_198 : BitVec 32 := 0#32
  let v338 : BitVec 1 := Scalar.cmpi .ne v337 c0_i32_198
  v338

def k0_off9 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off10 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_453 : BitVec 32 := 0#32
  let c0_i32_454 : BitVec 32 := 0#32
  ![v2.toNat, 0, 0]
def k0_dev36 (d0 : Dev nD) : Nat :=
  let c0_i32_452 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_449 : BitVec 32 := 5#32
  let v690 : BitVec 32 := Scalar.addi v2 c5_i32_449
  let c1_i32_451 : BitVec 32 := 1#32
  let v691 : BitVec 32 := Scalar.muli v690 c1_i32_451
  let v692 : BitVec 32 := Scalar.addi c0_i32_452 v691
  v692.toNat
def k0_cond68 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_199 : BitVec 32 := 6#32
  let v339 : BitVec 32 := Scalar.addi v2 c6_i32_199
  let c32_i32_200 : BitVec 32 := 32#32
  let v340 : BitVec 1 := Scalar.cmpi .slt v339 c32_i32_200
  let v341 : BitVec 32 := Scalar.extui v340
  let c0_i32_201 : BitVec 32 := 0#32
  let v342 : BitVec 1 := Scalar.cmpi .ne v341 c0_i32_201
  v342

def k0_off11 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off12 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_453 : BitVec 32 := 0#32
  let c0_i32_454 : BitVec 32 := 0#32
  ![v2.toNat, 0, 0]
def k0_dev37 (d0 : Dev nD) : Nat :=
  let c0_i32_452 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_449 : BitVec 32 := 6#32
  let v690 : BitVec 32 := Scalar.addi v2 c6_i32_449
  let c1_i32_451 : BitVec 32 := 1#32
  let v691 : BitVec 32 := Scalar.muli v690 c1_i32_451
  let v692 : BitVec 32 := Scalar.addi c0_i32_452 v691
  v692.toNat
def k0_cond69 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_202 : BitVec 32 := 7#32
  let v343 : BitVec 32 := Scalar.addi v2 c7_i32_202
  let c32_i32_203 : BitVec 32 := 32#32
  let v344 : BitVec 1 := Scalar.cmpi .slt v343 c32_i32_203
  let v345 : BitVec 32 := Scalar.extui v344
  let c0_i32_204 : BitVec 32 := 0#32
  let v346 : BitVec 1 := Scalar.cmpi .ne v345 c0_i32_204
  v346

def k0_off13 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off14 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_453 : BitVec 32 := 0#32
  let c0_i32_454 : BitVec 32 := 0#32
  ![v2.toNat, 0, 0]
def k0_dev38 (d0 : Dev nD) : Nat :=
  let c0_i32_452 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_449 : BitVec 32 := 7#32
  let v690 : BitVec 32 := Scalar.addi v2 c7_i32_449
  let c1_i32_451 : BitVec 32 := 1#32
  let v691 : BitVec 32 := Scalar.muli v690 c1_i32_451
  let v692 : BitVec 32 := Scalar.addi c0_i32_452 v691
  v692.toNat
def k0_cond70 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_205 : BitVec 32 := 8#32
  let v347 : BitVec 32 := Scalar.addi v2 c8_i32_205
  let c32_i32_206 : BitVec 32 := 32#32
  let v348 : BitVec 1 := Scalar.cmpi .slt v347 c32_i32_206
  let v349 : BitVec 32 := Scalar.extui v348
  let c0_i32_207 : BitVec 32 := 0#32
  let v350 : BitVec 1 := Scalar.cmpi .ne v349 c0_i32_207
  v350

def k0_off15 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off16 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_453 : BitVec 32 := 0#32
  let c0_i32_454 : BitVec 32 := 0#32
  ![v2.toNat, 0, 0]
def k0_dev39 (d0 : Dev nD) : Nat :=
  let c0_i32_452 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_449 : BitVec 32 := 8#32
  let v690 : BitVec 32 := Scalar.addi v2 c8_i32_449
  let c1_i32_451 : BitVec 32 := 1#32
  let v691 : BitVec 32 := Scalar.muli v690 c1_i32_451
  let v692 : BitVec 32 := Scalar.addi c0_i32_452 v691
  v692.toNat
def k0_cond71 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32_208 : BitVec 32 := 9#32
  let v351 : BitVec 32 := Scalar.addi v2 c9_i32_208
  let c32_i32_209 : BitVec 32 := 32#32
  let v352 : BitVec 1 := Scalar.cmpi .slt v351 c32_i32_209
  let v353 : BitVec 32 := Scalar.extui v352
  let c0_i32_210 : BitVec 32 := 0#32
  let v354 : BitVec 1 := Scalar.cmpi .ne v353 c0_i32_210
  v354

def k0_off17 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off18 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_453 : BitVec 32 := 0#32
  let c0_i32_454 : BitVec 32 := 0#32
  ![v2.toNat, 0, 0]
def k0_dev40 (d0 : Dev nD) : Nat :=
  let c0_i32_452 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32_449 : BitVec 32 := 9#32
  let v690 : BitVec 32 := Scalar.addi v2 c9_i32_449
  let c1_i32_451 : BitVec 32 := 1#32
  let v691 : BitVec 32 := Scalar.muli v690 c1_i32_451
  let v692 : BitVec 32 := Scalar.addi c0_i32_452 v691
  v692.toNat
def k0_cond72 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32_211 : BitVec 32 := 10#32
  let v355 : BitVec 32 := Scalar.addi v2 c10_i32_211
  let c32_i32_212 : BitVec 32 := 32#32
  let v356 : BitVec 1 := Scalar.cmpi .slt v355 c32_i32_212
  let v357 : BitVec 32 := Scalar.extui v356
  let c0_i32_213 : BitVec 32 := 0#32
  let v358 : BitVec 1 := Scalar.cmpi .ne v357 c0_i32_213
  v358

def k0_off19 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off20 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_453 : BitVec 32 := 0#32
  let c0_i32_454 : BitVec 32 := 0#32
  ![v2.toNat, 0, 0]
def k0_dev41 (d0 : Dev nD) : Nat :=
  let c0_i32_452 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32_449 : BitVec 32 := 10#32
  let v690 : BitVec 32 := Scalar.addi v2 c10_i32_449
  let c1_i32_451 : BitVec 32 := 1#32
  let v691 : BitVec 32 := Scalar.muli v690 c1_i32_451
  let v692 : BitVec 32 := Scalar.addi c0_i32_452 v691
  v692.toNat
def k0_cond73 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32_214 : BitVec 32 := 11#32
  let v359 : BitVec 32 := Scalar.addi v2 c11_i32_214
  let c32_i32_215 : BitVec 32 := 32#32
  let v360 : BitVec 1 := Scalar.cmpi .slt v359 c32_i32_215
  let v361 : BitVec 32 := Scalar.extui v360
  let c0_i32_216 : BitVec 32 := 0#32
  let v362 : BitVec 1 := Scalar.cmpi .ne v361 c0_i32_216
  v362

def k0_off21 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off22 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_453 : BitVec 32 := 0#32
  let c0_i32_454 : BitVec 32 := 0#32
  ![v2.toNat, 0, 0]
def k0_dev42 (d0 : Dev nD) : Nat :=
  let c0_i32_452 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32_449 : BitVec 32 := 11#32
  let v690 : BitVec 32 := Scalar.addi v2 c11_i32_449
  let c1_i32_451 : BitVec 32 := 1#32
  let v691 : BitVec 32 := Scalar.muli v690 c1_i32_451
  let v692 : BitVec 32 := Scalar.addi c0_i32_452 v691
  v692.toNat
def k0_cond74 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32_217 : BitVec 32 := 12#32
  let v363 : BitVec 32 := Scalar.addi v2 c12_i32_217
  let c32_i32_218 : BitVec 32 := 32#32
  let v364 : BitVec 1 := Scalar.cmpi .slt v363 c32_i32_218
  let v365 : BitVec 32 := Scalar.extui v364
  let c0_i32_219 : BitVec 32 := 0#32
  let v366 : BitVec 1 := Scalar.cmpi .ne v365 c0_i32_219
  v366

def k0_off23 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off24 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_453 : BitVec 32 := 0#32
  let c0_i32_454 : BitVec 32 := 0#32
  ![v2.toNat, 0, 0]
def k0_dev43 (d0 : Dev nD) : Nat :=
  let c0_i32_452 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32_449 : BitVec 32 := 12#32
  let v690 : BitVec 32 := Scalar.addi v2 c12_i32_449
  let c1_i32_451 : BitVec 32 := 1#32
  let v691 : BitVec 32 := Scalar.muli v690 c1_i32_451
  let v692 : BitVec 32 := Scalar.addi c0_i32_452 v691
  v692.toNat
def k0_cond75 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32_220 : BitVec 32 := 13#32
  let v367 : BitVec 32 := Scalar.addi v2 c13_i32_220
  let c32_i32_221 : BitVec 32 := 32#32
  let v368 : BitVec 1 := Scalar.cmpi .slt v367 c32_i32_221
  let v369 : BitVec 32 := Scalar.extui v368
  let c0_i32_222 : BitVec 32 := 0#32
  let v370 : BitVec 1 := Scalar.cmpi .ne v369 c0_i32_222
  v370

def k0_off25 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off26 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_453 : BitVec 32 := 0#32
  let c0_i32_454 : BitVec 32 := 0#32
  ![v2.toNat, 0, 0]
def k0_dev44 (d0 : Dev nD) : Nat :=
  let c0_i32_452 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32_449 : BitVec 32 := 13#32
  let v690 : BitVec 32 := Scalar.addi v2 c13_i32_449
  let c1_i32_451 : BitVec 32 := 1#32
  let v691 : BitVec 32 := Scalar.muli v690 c1_i32_451
  let v692 : BitVec 32 := Scalar.addi c0_i32_452 v691
  v692.toNat
def k0_cond76 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32_223 : BitVec 32 := 14#32
  let v371 : BitVec 32 := Scalar.addi v2 c14_i32_223
  let c32_i32_224 : BitVec 32 := 32#32
  let v372 : BitVec 1 := Scalar.cmpi .slt v371 c32_i32_224
  let v373 : BitVec 32 := Scalar.extui v372
  let c0_i32_225 : BitVec 32 := 0#32
  let v374 : BitVec 1 := Scalar.cmpi .ne v373 c0_i32_225
  v374

def k0_off27 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off28 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_453 : BitVec 32 := 0#32
  let c0_i32_454 : BitVec 32 := 0#32
  ![v2.toNat, 0, 0]
def k0_dev45 (d0 : Dev nD) : Nat :=
  let c0_i32_452 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32_449 : BitVec 32 := 14#32
  let v690 : BitVec 32 := Scalar.addi v2 c14_i32_449
  let c1_i32_451 : BitVec 32 := 1#32
  let v691 : BitVec 32 := Scalar.muli v690 c1_i32_451
  let v692 : BitVec 32 := Scalar.addi c0_i32_452 v691
  v692.toNat
def k0_cond77 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32_226 : BitVec 32 := 15#32
  let v375 : BitVec 32 := Scalar.addi v2 c15_i32_226
  let c32_i32_227 : BitVec 32 := 32#32
  let v376 : BitVec 1 := Scalar.cmpi .slt v375 c32_i32_227
  let v377 : BitVec 32 := Scalar.extui v376
  let c0_i32_228 : BitVec 32 := 0#32
  let v378 : BitVec 1 := Scalar.cmpi .ne v377 c0_i32_228
  v378

def k0_off29 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off30 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_453 : BitVec 32 := 0#32
  let c0_i32_454 : BitVec 32 := 0#32
  ![v2.toNat, 0, 0]
def k0_dev46 (d0 : Dev nD) : Nat :=
  let c0_i32_452 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32_449 : BitVec 32 := 15#32
  let v690 : BitVec 32 := Scalar.addi v2 c15_i32_449
  let c1_i32_451 : BitVec 32 := 1#32
  let v691 : BitVec 32 := Scalar.muli v690 c1_i32_451
  let v692 : BitVec 32 := Scalar.addi c0_i32_452 v691
  v692.toNat
def k0_cond78 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_229 : BitVec 32 := 16#32
  let v379 : BitVec 32 := Scalar.addi v2 c16_i32_229
  let c32_i32_230 : BitVec 32 := 32#32
  let v380 : BitVec 1 := Scalar.cmpi .slt v379 c32_i32_230
  let v381 : BitVec 32 := Scalar.extui v380
  let c0_i32_231 : BitVec 32 := 0#32
  let v382 : BitVec 1 := Scalar.cmpi .ne v381 c0_i32_231
  v382

def k0_off31 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off32 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_453 : BitVec 32 := 0#32
  let c0_i32_454 : BitVec 32 := 0#32
  ![v2.toNat, 0, 0]
def k0_dev47 (d0 : Dev nD) : Nat :=
  let c0_i32_452 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_449 : BitVec 32 := 16#32
  let v690 : BitVec 32 := Scalar.addi v2 c16_i32_449
  let c1_i32_451 : BitVec 32 := 1#32
  let v691 : BitVec 32 := Scalar.muli v690 c1_i32_451
  let v692 : BitVec 32 := Scalar.addi c0_i32_452 v691
  v692.toNat
def k0_cond79 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32_232 : BitVec 32 := 17#32
  let v383 : BitVec 32 := Scalar.addi v2 c17_i32_232
  let c32_i32_233 : BitVec 32 := 32#32
  let v384 : BitVec 1 := Scalar.cmpi .slt v383 c32_i32_233
  let v385 : BitVec 32 := Scalar.extui v384
  let c0_i32_234 : BitVec 32 := 0#32
  let v386 : BitVec 1 := Scalar.cmpi .ne v385 c0_i32_234
  v386

def k0_off33 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off34 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_453 : BitVec 32 := 0#32
  let c0_i32_454 : BitVec 32 := 0#32
  ![v2.toNat, 0, 0]
def k0_dev48 (d0 : Dev nD) : Nat :=
  let c0_i32_452 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32_449 : BitVec 32 := 17#32
  let v690 : BitVec 32 := Scalar.addi v2 c17_i32_449
  let c1_i32_451 : BitVec 32 := 1#32
  let v691 : BitVec 32 := Scalar.muli v690 c1_i32_451
  let v692 : BitVec 32 := Scalar.addi c0_i32_452 v691
  v692.toNat
def k0_cond80 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32_235 : BitVec 32 := 18#32
  let v387 : BitVec 32 := Scalar.addi v2 c18_i32_235
  let c32_i32_236 : BitVec 32 := 32#32
  let v388 : BitVec 1 := Scalar.cmpi .slt v387 c32_i32_236
  let v389 : BitVec 32 := Scalar.extui v388
  let c0_i32_237 : BitVec 32 := 0#32
  let v390 : BitVec 1 := Scalar.cmpi .ne v389 c0_i32_237
  v390

def k0_off35 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off36 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_453 : BitVec 32 := 0#32
  let c0_i32_454 : BitVec 32 := 0#32
  ![v2.toNat, 0, 0]
def k0_dev49 (d0 : Dev nD) : Nat :=
  let c0_i32_452 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32_449 : BitVec 32 := 18#32
  let v690 : BitVec 32 := Scalar.addi v2 c18_i32_449
  let c1_i32_451 : BitVec 32 := 1#32
  let v691 : BitVec 32 := Scalar.muli v690 c1_i32_451
  let v692 : BitVec 32 := Scalar.addi c0_i32_452 v691
  v692.toNat
def k0_cond81 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32_238 : BitVec 32 := 19#32
  let v391 : BitVec 32 := Scalar.addi v2 c19_i32_238
  let c32_i32_239 : BitVec 32 := 32#32
  let v392 : BitVec 1 := Scalar.cmpi .slt v391 c32_i32_239
  let v393 : BitVec 32 := Scalar.extui v392
  let c0_i32_240 : BitVec 32 := 0#32
  let v394 : BitVec 1 := Scalar.cmpi .ne v393 c0_i32_240
  v394

def k0_off37 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off38 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_453 : BitVec 32 := 0#32
  let c0_i32_454 : BitVec 32 := 0#32
  ![v2.toNat, 0, 0]
def k0_dev50 (d0 : Dev nD) : Nat :=
  let c0_i32_452 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32_449 : BitVec 32 := 19#32
  let v690 : BitVec 32 := Scalar.addi v2 c19_i32_449
  let c1_i32_451 : BitVec 32 := 1#32
  let v691 : BitVec 32 := Scalar.muli v690 c1_i32_451
  let v692 : BitVec 32 := Scalar.addi c0_i32_452 v691
  v692.toNat
def k0_cond82 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32_241 : BitVec 32 := 20#32
  let v395 : BitVec 32 := Scalar.addi v2 c20_i32_241
  let c32_i32_242 : BitVec 32 := 32#32
  let v396 : BitVec 1 := Scalar.cmpi .slt v395 c32_i32_242
  let v397 : BitVec 32 := Scalar.extui v396
  let c0_i32_243 : BitVec 32 := 0#32
  let v398 : BitVec 1 := Scalar.cmpi .ne v397 c0_i32_243
  v398

def k0_off39 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off40 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_453 : BitVec 32 := 0#32
  let c0_i32_454 : BitVec 32 := 0#32
  ![v2.toNat, 0, 0]
def k0_dev51 (d0 : Dev nD) : Nat :=
  let c0_i32_452 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32_449 : BitVec 32 := 20#32
  let v690 : BitVec 32 := Scalar.addi v2 c20_i32_449
  let c1_i32_451 : BitVec 32 := 1#32
  let v691 : BitVec 32 := Scalar.muli v690 c1_i32_451
  let v692 : BitVec 32 := Scalar.addi c0_i32_452 v691
  v692.toNat
def k0_cond83 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32_244 : BitVec 32 := 21#32
  let v399 : BitVec 32 := Scalar.addi v2 c21_i32_244
  let c32_i32_245 : BitVec 32 := 32#32
  let v400 : BitVec 1 := Scalar.cmpi .slt v399 c32_i32_245
  let v401 : BitVec 32 := Scalar.extui v400
  let c0_i32_246 : BitVec 32 := 0#32
  let v402 : BitVec 1 := Scalar.cmpi .ne v401 c0_i32_246
  v402

def k0_off41 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off42 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_453 : BitVec 32 := 0#32
  let c0_i32_454 : BitVec 32 := 0#32
  ![v2.toNat, 0, 0]
def k0_dev52 (d0 : Dev nD) : Nat :=
  let c0_i32_452 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32_449 : BitVec 32 := 21#32
  let v690 : BitVec 32 := Scalar.addi v2 c21_i32_449
  let c1_i32_451 : BitVec 32 := 1#32
  let v691 : BitVec 32 := Scalar.muli v690 c1_i32_451
  let v692 : BitVec 32 := Scalar.addi c0_i32_452 v691
  v692.toNat
def k0_cond84 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32_247 : BitVec 32 := 22#32
  let v403 : BitVec 32 := Scalar.addi v2 c22_i32_247
  let c32_i32_248 : BitVec 32 := 32#32
  let v404 : BitVec 1 := Scalar.cmpi .slt v403 c32_i32_248
  let v405 : BitVec 32 := Scalar.extui v404
  let c0_i32_249 : BitVec 32 := 0#32
  let v406 : BitVec 1 := Scalar.cmpi .ne v405 c0_i32_249
  v406

def k0_off43 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off44 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_453 : BitVec 32 := 0#32
  let c0_i32_454 : BitVec 32 := 0#32
  ![v2.toNat, 0, 0]
def k0_dev53 (d0 : Dev nD) : Nat :=
  let c0_i32_452 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32_449 : BitVec 32 := 22#32
  let v690 : BitVec 32 := Scalar.addi v2 c22_i32_449
  let c1_i32_451 : BitVec 32 := 1#32
  let v691 : BitVec 32 := Scalar.muli v690 c1_i32_451
  let v692 : BitVec 32 := Scalar.addi c0_i32_452 v691
  v692.toNat
def k0_cond85 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32_250 : BitVec 32 := 23#32
  let v407 : BitVec 32 := Scalar.addi v2 c23_i32_250
  let c32_i32_251 : BitVec 32 := 32#32
  let v408 : BitVec 1 := Scalar.cmpi .slt v407 c32_i32_251
  let v409 : BitVec 32 := Scalar.extui v408
  let c0_i32_252 : BitVec 32 := 0#32
  let v410 : BitVec 1 := Scalar.cmpi .ne v409 c0_i32_252
  v410

def k0_off45 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off46 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_453 : BitVec 32 := 0#32
  let c0_i32_454 : BitVec 32 := 0#32
  ![v2.toNat, 0, 0]
def k0_dev54 (d0 : Dev nD) : Nat :=
  let c0_i32_452 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32_449 : BitVec 32 := 23#32
  let v690 : BitVec 32 := Scalar.addi v2 c23_i32_449
  let c1_i32_451 : BitVec 32 := 1#32
  let v691 : BitVec 32 := Scalar.muli v690 c1_i32_451
  let v692 : BitVec 32 := Scalar.addi c0_i32_452 v691
  v692.toNat
def k0_cond86 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_253 : BitVec 32 := 24#32
  let v411 : BitVec 32 := Scalar.addi v2 c24_i32_253
  let c32_i32_254 : BitVec 32 := 32#32
  let v412 : BitVec 1 := Scalar.cmpi .slt v411 c32_i32_254
  let v413 : BitVec 32 := Scalar.extui v412
  let c0_i32_255 : BitVec 32 := 0#32
  let v414 : BitVec 1 := Scalar.cmpi .ne v413 c0_i32_255
  v414

def k0_off47 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off48 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_453 : BitVec 32 := 0#32
  let c0_i32_454 : BitVec 32 := 0#32
  ![v2.toNat, 0, 0]
def k0_dev55 (d0 : Dev nD) : Nat :=
  let c0_i32_452 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_449 : BitVec 32 := 24#32
  let v690 : BitVec 32 := Scalar.addi v2 c24_i32_449
  let c1_i32_451 : BitVec 32 := 1#32
  let v691 : BitVec 32 := Scalar.muli v690 c1_i32_451
  let v692 : BitVec 32 := Scalar.addi c0_i32_452 v691
  v692.toNat
def k0_cond87 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32_256 : BitVec 32 := 25#32
  let v415 : BitVec 32 := Scalar.addi v2 c25_i32_256
  let c32_i32_257 : BitVec 32 := 32#32
  let v416 : BitVec 1 := Scalar.cmpi .slt v415 c32_i32_257
  let v417 : BitVec 32 := Scalar.extui v416
  let c0_i32_258 : BitVec 32 := 0#32
  let v418 : BitVec 1 := Scalar.cmpi .ne v417 c0_i32_258
  v418

def k0_off49 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off50 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_453 : BitVec 32 := 0#32
  let c0_i32_454 : BitVec 32 := 0#32
  ![v2.toNat, 0, 0]
def k0_dev56 (d0 : Dev nD) : Nat :=
  let c0_i32_452 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32_449 : BitVec 32 := 25#32
  let v690 : BitVec 32 := Scalar.addi v2 c25_i32_449
  let c1_i32_451 : BitVec 32 := 1#32
  let v691 : BitVec 32 := Scalar.muli v690 c1_i32_451
  let v692 : BitVec 32 := Scalar.addi c0_i32_452 v691
  v692.toNat
def k0_cond88 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32_259 : BitVec 32 := 26#32
  let v419 : BitVec 32 := Scalar.addi v2 c26_i32_259
  let c32_i32_260 : BitVec 32 := 32#32
  let v420 : BitVec 1 := Scalar.cmpi .slt v419 c32_i32_260
  let v421 : BitVec 32 := Scalar.extui v420
  let c0_i32_261 : BitVec 32 := 0#32
  let v422 : BitVec 1 := Scalar.cmpi .ne v421 c0_i32_261
  v422

def k0_off51 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off52 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_453 : BitVec 32 := 0#32
  let c0_i32_454 : BitVec 32 := 0#32
  ![v2.toNat, 0, 0]
def k0_dev57 (d0 : Dev nD) : Nat :=
  let c0_i32_452 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32_449 : BitVec 32 := 26#32
  let v690 : BitVec 32 := Scalar.addi v2 c26_i32_449
  let c1_i32_451 : BitVec 32 := 1#32
  let v691 : BitVec 32 := Scalar.muli v690 c1_i32_451
  let v692 : BitVec 32 := Scalar.addi c0_i32_452 v691
  v692.toNat
def k0_cond89 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32_262 : BitVec 32 := 27#32
  let v423 : BitVec 32 := Scalar.addi v2 c27_i32_262
  let c32_i32_263 : BitVec 32 := 32#32
  let v424 : BitVec 1 := Scalar.cmpi .slt v423 c32_i32_263
  let v425 : BitVec 32 := Scalar.extui v424
  let c0_i32_264 : BitVec 32 := 0#32
  let v426 : BitVec 1 := Scalar.cmpi .ne v425 c0_i32_264
  v426

def k0_off53 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off54 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_453 : BitVec 32 := 0#32
  let c0_i32_454 : BitVec 32 := 0#32
  ![v2.toNat, 0, 0]
def k0_dev58 (d0 : Dev nD) : Nat :=
  let c0_i32_452 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32_449 : BitVec 32 := 27#32
  let v690 : BitVec 32 := Scalar.addi v2 c27_i32_449
  let c1_i32_451 : BitVec 32 := 1#32
  let v691 : BitVec 32 := Scalar.muli v690 c1_i32_451
  let v692 : BitVec 32 := Scalar.addi c0_i32_452 v691
  v692.toNat
def k0_cond90 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32_265 : BitVec 32 := 28#32
  let v427 : BitVec 32 := Scalar.addi v2 c28_i32_265
  let c32_i32_266 : BitVec 32 := 32#32
  let v428 : BitVec 1 := Scalar.cmpi .slt v427 c32_i32_266
  let v429 : BitVec 32 := Scalar.extui v428
  let c0_i32_267 : BitVec 32 := 0#32
  let v430 : BitVec 1 := Scalar.cmpi .ne v429 c0_i32_267
  v430

def k0_off55 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off56 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_453 : BitVec 32 := 0#32
  let c0_i32_454 : BitVec 32 := 0#32
  ![v2.toNat, 0, 0]
def k0_dev59 (d0 : Dev nD) : Nat :=
  let c0_i32_452 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32_449 : BitVec 32 := 28#32
  let v690 : BitVec 32 := Scalar.addi v2 c28_i32_449
  let c1_i32_451 : BitVec 32 := 1#32
  let v691 : BitVec 32 := Scalar.muli v690 c1_i32_451
  let v692 : BitVec 32 := Scalar.addi c0_i32_452 v691
  v692.toNat
def k0_cond91 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32_268 : BitVec 32 := 29#32
  let v431 : BitVec 32 := Scalar.addi v2 c29_i32_268
  let c32_i32_269 : BitVec 32 := 32#32
  let v432 : BitVec 1 := Scalar.cmpi .slt v431 c32_i32_269
  let v433 : BitVec 32 := Scalar.extui v432
  let c0_i32_270 : BitVec 32 := 0#32
  let v434 : BitVec 1 := Scalar.cmpi .ne v433 c0_i32_270
  v434

def k0_off57 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off58 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_453 : BitVec 32 := 0#32
  let c0_i32_454 : BitVec 32 := 0#32
  ![v2.toNat, 0, 0]
def k0_dev60 (d0 : Dev nD) : Nat :=
  let c0_i32_452 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32_449 : BitVec 32 := 29#32
  let v690 : BitVec 32 := Scalar.addi v2 c29_i32_449
  let c1_i32_451 : BitVec 32 := 1#32
  let v691 : BitVec 32 := Scalar.muli v690 c1_i32_451
  let v692 : BitVec 32 := Scalar.addi c0_i32_452 v691
  v692.toNat
def k0_cond92 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32_271 : BitVec 32 := 30#32
  let v435 : BitVec 32 := Scalar.addi v2 c30_i32_271
  let c32_i32_272 : BitVec 32 := 32#32
  let v436 : BitVec 1 := Scalar.cmpi .slt v435 c32_i32_272
  let v437 : BitVec 32 := Scalar.extui v436
  let c0_i32_273 : BitVec 32 := 0#32
  let v438 : BitVec 1 := Scalar.cmpi .ne v437 c0_i32_273
  v438

def k0_off59 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off60 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_453 : BitVec 32 := 0#32
  let c0_i32_454 : BitVec 32 := 0#32
  ![v2.toNat, 0, 0]
def k0_dev61 (d0 : Dev nD) : Nat :=
  let c0_i32_452 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32_449 : BitVec 32 := 30#32
  let v690 : BitVec 32 := Scalar.addi v2 c30_i32_449
  let c1_i32_451 : BitVec 32 := 1#32
  let v691 : BitVec 32 := Scalar.muli v690 c1_i32_451
  let v692 : BitVec 32 := Scalar.addi c0_i32_452 v691
  v692.toNat
def k0_cond93 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_274 : BitVec 32 := 31#32
  let v439 : BitVec 32 := Scalar.addi v2 c31_i32_274
  let c32_i32_275 : BitVec 32 := 32#32
  let v440 : BitVec 1 := Scalar.cmpi .slt v439 c32_i32_275
  let v441 : BitVec 32 := Scalar.extui v440
  let c0_i32_276 : BitVec 32 := 0#32
  let v442 : BitVec 1 := Scalar.cmpi .ne v441 c0_i32_276
  v442

def k0_off61 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off62 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_453 : BitVec 32 := 0#32
  let c0_i32_454 : BitVec 32 := 0#32
  ![v2.toNat, 0, 0]
def k0_dev62 (d0 : Dev nD) : Nat :=
  let c0_i32_452 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_449 : BitVec 32 := 31#32
  let v690 : BitVec 32 := Scalar.addi v2 c31_i32_449
  let c1_i32_451 : BitVec 32 := 1#32
  let v691 : BitVec 32 := Scalar.muli v690 c1_i32_451
  let v692 : BitVec 32 := Scalar.addi c0_i32_452 v691
  v692.toNat
def k0_cond125 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_356 : BitVec 32 := 1#32
  let v566 : BitVec 32 := Scalar.addi v2 c1_i32_356
  let c32_i32_357 : BitVec 32 := 32#32
  let v567 : BitVec 1 := Scalar.cmpi .slt v566 c32_i32_357
  let v568 : BitVec 32 := Scalar.extui v567
  let c0_i32_358 : BitVec 32 := 0#32
  let v569 : BitVec 1 := Scalar.cmpi .ne v568 c0_i32_358
  v569

def k0_off63 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_453 : BitVec 32 := 0#32
  let c0_i32_454 : BitVec 32 := 0#32
  ![v2.toNat, 0, 0]
def k0_cond126 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_359 : BitVec 32 := 2#32
  let v570 : BitVec 32 := Scalar.addi v2 c2_i32_359
  let c32_i32_360 : BitVec 32 := 32#32
  let v571 : BitVec 1 := Scalar.cmpi .slt v570 c32_i32_360
  let v572 : BitVec 32 := Scalar.extui v571
  let c0_i32_361 : BitVec 32 := 0#32
  let v573 : BitVec 1 := Scalar.cmpi .ne v572 c0_i32_361
  v573

def k0_off64 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_453 : BitVec 32 := 0#32
  let c0_i32_454 : BitVec 32 := 0#32
  ![v2.toNat, 0, 0]
def k0_cond127 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_362 : BitVec 32 := 3#32
  let v574 : BitVec 32 := Scalar.addi v2 c3_i32_362
  let c32_i32_363 : BitVec 32 := 32#32
  let v575 : BitVec 1 := Scalar.cmpi .slt v574 c32_i32_363
  let v576 : BitVec 32 := Scalar.extui v575
  let c0_i32_364 : BitVec 32 := 0#32
  let v577 : BitVec 1 := Scalar.cmpi .ne v576 c0_i32_364
  v577

def k0_off65 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_453 : BitVec 32 := 0#32
  let c0_i32_454 : BitVec 32 := 0#32
  ![v2.toNat, 0, 0]
def k0_cond128 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_365 : BitVec 32 := 4#32
  let v578 : BitVec 32 := Scalar.addi v2 c4_i32_365
  let c32_i32_366 : BitVec 32 := 32#32
  let v579 : BitVec 1 := Scalar.cmpi .slt v578 c32_i32_366
  let v580 : BitVec 32 := Scalar.extui v579
  let c0_i32_367 : BitVec 32 := 0#32
  let v581 : BitVec 1 := Scalar.cmpi .ne v580 c0_i32_367
  v581

def k0_off66 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_453 : BitVec 32 := 0#32
  let c0_i32_454 : BitVec 32 := 0#32
  ![v2.toNat, 0, 0]
def k0_cond129 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_368 : BitVec 32 := 5#32
  let v582 : BitVec 32 := Scalar.addi v2 c5_i32_368
  let c32_i32_369 : BitVec 32 := 32#32
  let v583 : BitVec 1 := Scalar.cmpi .slt v582 c32_i32_369
  let v584 : BitVec 32 := Scalar.extui v583
  let c0_i32_370 : BitVec 32 := 0#32
  let v585 : BitVec 1 := Scalar.cmpi .ne v584 c0_i32_370
  v585

def k0_off67 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_453 : BitVec 32 := 0#32
  let c0_i32_454 : BitVec 32 := 0#32
  ![v2.toNat, 0, 0]
def k0_cond130 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_371 : BitVec 32 := 6#32
  let v586 : BitVec 32 := Scalar.addi v2 c6_i32_371
  let c32_i32_372 : BitVec 32 := 32#32
  let v587 : BitVec 1 := Scalar.cmpi .slt v586 c32_i32_372
  let v588 : BitVec 32 := Scalar.extui v587
  let c0_i32_373 : BitVec 32 := 0#32
  let v589 : BitVec 1 := Scalar.cmpi .ne v588 c0_i32_373
  v589

def k0_off68 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_453 : BitVec 32 := 0#32
  let c0_i32_454 : BitVec 32 := 0#32
  ![v2.toNat, 0, 0]
def k0_cond131 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_374 : BitVec 32 := 7#32
  let v590 : BitVec 32 := Scalar.addi v2 c7_i32_374
  let c32_i32_375 : BitVec 32 := 32#32
  let v591 : BitVec 1 := Scalar.cmpi .slt v590 c32_i32_375
  let v592 : BitVec 32 := Scalar.extui v591
  let c0_i32_376 : BitVec 32 := 0#32
  let v593 : BitVec 1 := Scalar.cmpi .ne v592 c0_i32_376
  v593

def k0_off69 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_453 : BitVec 32 := 0#32
  let c0_i32_454 : BitVec 32 := 0#32
  ![v2.toNat, 0, 0]
def k0_cond132 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_377 : BitVec 32 := 8#32
  let v594 : BitVec 32 := Scalar.addi v2 c8_i32_377
  let c32_i32_378 : BitVec 32 := 32#32
  let v595 : BitVec 1 := Scalar.cmpi .slt v594 c32_i32_378
  let v596 : BitVec 32 := Scalar.extui v595
  let c0_i32_379 : BitVec 32 := 0#32
  let v597 : BitVec 1 := Scalar.cmpi .ne v596 c0_i32_379
  v597

def k0_off70 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_453 : BitVec 32 := 0#32
  let c0_i32_454 : BitVec 32 := 0#32
  ![v2.toNat, 0, 0]
def k0_cond133 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32_380 : BitVec 32 := 9#32
  let v598 : BitVec 32 := Scalar.addi v2 c9_i32_380
  let c32_i32_381 : BitVec 32 := 32#32
  let v599 : BitVec 1 := Scalar.cmpi .slt v598 c32_i32_381
  let v600 : BitVec 32 := Scalar.extui v599
  let c0_i32_382 : BitVec 32 := 0#32
  let v601 : BitVec 1 := Scalar.cmpi .ne v600 c0_i32_382
  v601

def k0_off71 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_453 : BitVec 32 := 0#32
  let c0_i32_454 : BitVec 32 := 0#32
  ![v2.toNat, 0, 0]
def k0_cond134 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32_383 : BitVec 32 := 10#32
  let v602 : BitVec 32 := Scalar.addi v2 c10_i32_383
  let c32_i32_384 : BitVec 32 := 32#32
  let v603 : BitVec 1 := Scalar.cmpi .slt v602 c32_i32_384
  let v604 : BitVec 32 := Scalar.extui v603
  let c0_i32_385 : BitVec 32 := 0#32
  let v605 : BitVec 1 := Scalar.cmpi .ne v604 c0_i32_385
  v605

def k0_off72 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_453 : BitVec 32 := 0#32
  let c0_i32_454 : BitVec 32 := 0#32
  ![v2.toNat, 0, 0]
def k0_cond135 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32_386 : BitVec 32 := 11#32
  let v606 : BitVec 32 := Scalar.addi v2 c11_i32_386
  let c32_i32_387 : BitVec 32 := 32#32
  let v607 : BitVec 1 := Scalar.cmpi .slt v606 c32_i32_387
  let v608 : BitVec 32 := Scalar.extui v607
  let c0_i32_388 : BitVec 32 := 0#32
  let v609 : BitVec 1 := Scalar.cmpi .ne v608 c0_i32_388
  v609

def k0_off73 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_453 : BitVec 32 := 0#32
  let c0_i32_454 : BitVec 32 := 0#32
  ![v2.toNat, 0, 0]
def k0_cond136 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32_389 : BitVec 32 := 12#32
  let v610 : BitVec 32 := Scalar.addi v2 c12_i32_389
  let c32_i32_390 : BitVec 32 := 32#32
  let v611 : BitVec 1 := Scalar.cmpi .slt v610 c32_i32_390
  let v612 : BitVec 32 := Scalar.extui v611
  let c0_i32_391 : BitVec 32 := 0#32
  let v613 : BitVec 1 := Scalar.cmpi .ne v612 c0_i32_391
  v613

def k0_off74 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_453 : BitVec 32 := 0#32
  let c0_i32_454 : BitVec 32 := 0#32
  ![v2.toNat, 0, 0]
def k0_cond137 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32_392 : BitVec 32 := 13#32
  let v614 : BitVec 32 := Scalar.addi v2 c13_i32_392
  let c32_i32_393 : BitVec 32 := 32#32
  let v615 : BitVec 1 := Scalar.cmpi .slt v614 c32_i32_393
  let v616 : BitVec 32 := Scalar.extui v615
  let c0_i32_394 : BitVec 32 := 0#32
  let v617 : BitVec 1 := Scalar.cmpi .ne v616 c0_i32_394
  v617

def k0_off75 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_453 : BitVec 32 := 0#32
  let c0_i32_454 : BitVec 32 := 0#32
  ![v2.toNat, 0, 0]
def k0_cond138 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32_395 : BitVec 32 := 14#32
  let v618 : BitVec 32 := Scalar.addi v2 c14_i32_395
  let c32_i32_396 : BitVec 32 := 32#32
  let v619 : BitVec 1 := Scalar.cmpi .slt v618 c32_i32_396
  let v620 : BitVec 32 := Scalar.extui v619
  let c0_i32_397 : BitVec 32 := 0#32
  let v621 : BitVec 1 := Scalar.cmpi .ne v620 c0_i32_397
  v621

def k0_off76 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_453 : BitVec 32 := 0#32
  let c0_i32_454 : BitVec 32 := 0#32
  ![v2.toNat, 0, 0]
def k0_cond139 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32_398 : BitVec 32 := 15#32
  let v622 : BitVec 32 := Scalar.addi v2 c15_i32_398
  let c32_i32_399 : BitVec 32 := 32#32
  let v623 : BitVec 1 := Scalar.cmpi .slt v622 c32_i32_399
  let v624 : BitVec 32 := Scalar.extui v623
  let c0_i32_400 : BitVec 32 := 0#32
  let v625 : BitVec 1 := Scalar.cmpi .ne v624 c0_i32_400
  v625

def k0_off77 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_453 : BitVec 32 := 0#32
  let c0_i32_454 : BitVec 32 := 0#32
  ![v2.toNat, 0, 0]
def k0_cond140 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_401 : BitVec 32 := 16#32
  let v626 : BitVec 32 := Scalar.addi v2 c16_i32_401
  let c32_i32_402 : BitVec 32 := 32#32
  let v627 : BitVec 1 := Scalar.cmpi .slt v626 c32_i32_402
  let v628 : BitVec 32 := Scalar.extui v627
  let c0_i32_403 : BitVec 32 := 0#32
  let v629 : BitVec 1 := Scalar.cmpi .ne v628 c0_i32_403
  v629

def k0_off78 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_453 : BitVec 32 := 0#32
  let c0_i32_454 : BitVec 32 := 0#32
  ![v2.toNat, 0, 0]
def k0_cond141 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32_404 : BitVec 32 := 17#32
  let v630 : BitVec 32 := Scalar.addi v2 c17_i32_404
  let c32_i32_405 : BitVec 32 := 32#32
  let v631 : BitVec 1 := Scalar.cmpi .slt v630 c32_i32_405
  let v632 : BitVec 32 := Scalar.extui v631
  let c0_i32_406 : BitVec 32 := 0#32
  let v633 : BitVec 1 := Scalar.cmpi .ne v632 c0_i32_406
  v633

def k0_off79 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_453 : BitVec 32 := 0#32
  let c0_i32_454 : BitVec 32 := 0#32
  ![v2.toNat, 0, 0]
def k0_cond142 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32_407 : BitVec 32 := 18#32
  let v634 : BitVec 32 := Scalar.addi v2 c18_i32_407
  let c32_i32_408 : BitVec 32 := 32#32
  let v635 : BitVec 1 := Scalar.cmpi .slt v634 c32_i32_408
  let v636 : BitVec 32 := Scalar.extui v635
  let c0_i32_409 : BitVec 32 := 0#32
  let v637 : BitVec 1 := Scalar.cmpi .ne v636 c0_i32_409
  v637

def k0_off80 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_453 : BitVec 32 := 0#32
  let c0_i32_454 : BitVec 32 := 0#32
  ![v2.toNat, 0, 0]
def k0_cond143 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32_410 : BitVec 32 := 19#32
  let v638 : BitVec 32 := Scalar.addi v2 c19_i32_410
  let c32_i32_411 : BitVec 32 := 32#32
  let v639 : BitVec 1 := Scalar.cmpi .slt v638 c32_i32_411
  let v640 : BitVec 32 := Scalar.extui v639
  let c0_i32_412 : BitVec 32 := 0#32
  let v641 : BitVec 1 := Scalar.cmpi .ne v640 c0_i32_412
  v641

def k0_off81 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_453 : BitVec 32 := 0#32
  let c0_i32_454 : BitVec 32 := 0#32
  ![v2.toNat, 0, 0]
def k0_cond144 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32_413 : BitVec 32 := 20#32
  let v642 : BitVec 32 := Scalar.addi v2 c20_i32_413
  let c32_i32_414 : BitVec 32 := 32#32
  let v643 : BitVec 1 := Scalar.cmpi .slt v642 c32_i32_414
  let v644 : BitVec 32 := Scalar.extui v643
  let c0_i32_415 : BitVec 32 := 0#32
  let v645 : BitVec 1 := Scalar.cmpi .ne v644 c0_i32_415
  v645

def k0_off82 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_453 : BitVec 32 := 0#32
  let c0_i32_454 : BitVec 32 := 0#32
  ![v2.toNat, 0, 0]
def k0_cond145 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32_416 : BitVec 32 := 21#32
  let v646 : BitVec 32 := Scalar.addi v2 c21_i32_416
  let c32_i32_417 : BitVec 32 := 32#32
  let v647 : BitVec 1 := Scalar.cmpi .slt v646 c32_i32_417
  let v648 : BitVec 32 := Scalar.extui v647
  let c0_i32_418 : BitVec 32 := 0#32
  let v649 : BitVec 1 := Scalar.cmpi .ne v648 c0_i32_418
  v649

def k0_off83 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_453 : BitVec 32 := 0#32
  let c0_i32_454 : BitVec 32 := 0#32
  ![v2.toNat, 0, 0]
def k0_cond146 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32_419 : BitVec 32 := 22#32
  let v650 : BitVec 32 := Scalar.addi v2 c22_i32_419
  let c32_i32_420 : BitVec 32 := 32#32
  let v651 : BitVec 1 := Scalar.cmpi .slt v650 c32_i32_420
  let v652 : BitVec 32 := Scalar.extui v651
  let c0_i32_421 : BitVec 32 := 0#32
  let v653 : BitVec 1 := Scalar.cmpi .ne v652 c0_i32_421
  v653

def k0_off84 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_453 : BitVec 32 := 0#32
  let c0_i32_454 : BitVec 32 := 0#32
  ![v2.toNat, 0, 0]
def k0_cond147 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32_422 : BitVec 32 := 23#32
  let v654 : BitVec 32 := Scalar.addi v2 c23_i32_422
  let c32_i32_423 : BitVec 32 := 32#32
  let v655 : BitVec 1 := Scalar.cmpi .slt v654 c32_i32_423
  let v656 : BitVec 32 := Scalar.extui v655
  let c0_i32_424 : BitVec 32 := 0#32
  let v657 : BitVec 1 := Scalar.cmpi .ne v656 c0_i32_424
  v657

def k0_off85 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_453 : BitVec 32 := 0#32
  let c0_i32_454 : BitVec 32 := 0#32
  ![v2.toNat, 0, 0]
def k0_cond148 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_425 : BitVec 32 := 24#32
  let v658 : BitVec 32 := Scalar.addi v2 c24_i32_425
  let c32_i32_426 : BitVec 32 := 32#32
  let v659 : BitVec 1 := Scalar.cmpi .slt v658 c32_i32_426
  let v660 : BitVec 32 := Scalar.extui v659
  let c0_i32_427 : BitVec 32 := 0#32
  let v661 : BitVec 1 := Scalar.cmpi .ne v660 c0_i32_427
  v661

def k0_off86 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_453 : BitVec 32 := 0#32
  let c0_i32_454 : BitVec 32 := 0#32
  ![v2.toNat, 0, 0]
def k0_cond149 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32_428 : BitVec 32 := 25#32
  let v662 : BitVec 32 := Scalar.addi v2 c25_i32_428
  let c32_i32_429 : BitVec 32 := 32#32
  let v663 : BitVec 1 := Scalar.cmpi .slt v662 c32_i32_429
  let v664 : BitVec 32 := Scalar.extui v663
  let c0_i32_430 : BitVec 32 := 0#32
  let v665 : BitVec 1 := Scalar.cmpi .ne v664 c0_i32_430
  v665

def k0_off87 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_453 : BitVec 32 := 0#32
  let c0_i32_454 : BitVec 32 := 0#32
  ![v2.toNat, 0, 0]
def k0_cond150 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32_431 : BitVec 32 := 26#32
  let v666 : BitVec 32 := Scalar.addi v2 c26_i32_431
  let c32_i32_432 : BitVec 32 := 32#32
  let v667 : BitVec 1 := Scalar.cmpi .slt v666 c32_i32_432
  let v668 : BitVec 32 := Scalar.extui v667
  let c0_i32_433 : BitVec 32 := 0#32
  let v669 : BitVec 1 := Scalar.cmpi .ne v668 c0_i32_433
  v669

def k0_off88 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_453 : BitVec 32 := 0#32
  let c0_i32_454 : BitVec 32 := 0#32
  ![v2.toNat, 0, 0]
def k0_cond151 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32_434 : BitVec 32 := 27#32
  let v670 : BitVec 32 := Scalar.addi v2 c27_i32_434
  let c32_i32_435 : BitVec 32 := 32#32
  let v671 : BitVec 1 := Scalar.cmpi .slt v670 c32_i32_435
  let v672 : BitVec 32 := Scalar.extui v671
  let c0_i32_436 : BitVec 32 := 0#32
  let v673 : BitVec 1 := Scalar.cmpi .ne v672 c0_i32_436
  v673

def k0_off89 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_453 : BitVec 32 := 0#32
  let c0_i32_454 : BitVec 32 := 0#32
  ![v2.toNat, 0, 0]
def k0_cond152 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32_437 : BitVec 32 := 28#32
  let v674 : BitVec 32 := Scalar.addi v2 c28_i32_437
  let c32_i32_438 : BitVec 32 := 32#32
  let v675 : BitVec 1 := Scalar.cmpi .slt v674 c32_i32_438
  let v676 : BitVec 32 := Scalar.extui v675
  let c0_i32_439 : BitVec 32 := 0#32
  let v677 : BitVec 1 := Scalar.cmpi .ne v676 c0_i32_439
  v677

def k0_off90 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_453 : BitVec 32 := 0#32
  let c0_i32_454 : BitVec 32 := 0#32
  ![v2.toNat, 0, 0]
def k0_cond153 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32_440 : BitVec 32 := 29#32
  let v678 : BitVec 32 := Scalar.addi v2 c29_i32_440
  let c32_i32_441 : BitVec 32 := 32#32
  let v679 : BitVec 1 := Scalar.cmpi .slt v678 c32_i32_441
  let v680 : BitVec 32 := Scalar.extui v679
  let c0_i32_442 : BitVec 32 := 0#32
  let v681 : BitVec 1 := Scalar.cmpi .ne v680 c0_i32_442
  v681

def k0_off91 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_453 : BitVec 32 := 0#32
  let c0_i32_454 : BitVec 32 := 0#32
  ![v2.toNat, 0, 0]
def k0_cond154 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32_443 : BitVec 32 := 30#32
  let v682 : BitVec 32 := Scalar.addi v2 c30_i32_443
  let c32_i32_444 : BitVec 32 := 32#32
  let v683 : BitVec 1 := Scalar.cmpi .slt v682 c32_i32_444
  let v684 : BitVec 32 := Scalar.extui v683
  let c0_i32_445 : BitVec 32 := 0#32
  let v685 : BitVec 1 := Scalar.cmpi .ne v684 c0_i32_445
  v685

def k0_off92 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_453 : BitVec 32 := 0#32
  let c0_i32_454 : BitVec 32 := 0#32
  ![v2.toNat, 0, 0]
def k0_cond155 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_446 : BitVec 32 := 31#32
  let v686 : BitVec 32 := Scalar.addi v2 c31_i32_446
  let c32_i32_447 : BitVec 32 := 32#32
  let v687 : BitVec 1 := Scalar.cmpi .slt v686 c32_i32_447
  let v688 : BitVec 32 := Scalar.extui v687
  let c0_i32_448 : BitVec 32 := 0#32
  let v689 : BitVec 1 := Scalar.cmpi .ne v688 c0_i32_448
  v689

def k0_off93 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_453 : BitVec 32 := 0#32
  let c0_i32_454 : BitVec 32 := 0#32
  ![v2.toNat, 0, 0]
abbrev stage0_0 : Fin 1 → Memref sig .tc .vmem S1024x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S32768x512 : Shape := ⟨2, ![32768, 512]⟩
abbrev S_ : Shape := ⟨0, ![]⟩

abbrev nBuf : Space → Nat
  | .hbm => 4
  | .vmem => 0
  | .smem => 0
  | _ => 0

abbrev bufTy : (tb : Table) → Fin (tcTables nBuf tb) → BufTy
  | .hbm, ⟨0, _⟩ => ⟨S32768x512, .f32⟩
  | .hbm, ⟨1, _⟩ => ⟨S_, .f32⟩
  | .hbm, ⟨2, _⟩ => ⟨S_, .f32⟩
  | .hbm, ⟨3, _⟩ => ⟨S32768x512, .f32⟩
  | _, _ => ⟨S32768x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_call0_call0_cst : Ref sig .tc := ⟨.hbm, 1, rfl⟩
abbrev main_call0_call0_v0 : Ref sig .tc := ⟨.hbm, 2, rfl⟩
abbrev main_v0 : Ref sig .tc := ⟨.hbm, 3, rfl⟩

abbrev nD : Nat := 1
abbrev τ : Topo := Topo.v7x

variable {F : FTy → Type} [FloatOps F]
-- ==== Proof.Reference.lean ====
module

public import proofs.«01_k».proof.Proof.Gen.ReferenceIdeal
public import Idealize.ShloMosaic.Lib.StableHlo.Run

/-! The run of the reference: on its one device it ends, the result at the window sums of the argument, the argument as
    it was. -/

@[expose] public section

noncomputable section

namespace Cert.Scan.Ref

open Cert.ReferenceIdeal Cert.ReferenceIdeal.Gen
open Idealize.ShloMosaic Idealize.ShloMosaic.TcCoe Idealize.ShloMosaic.StableHlo Idealize.SL.Sem

variable {F : FTy → Type} [FloatOps F]

/-- The reference's result from its argument: each element the sum of the window of 32768 rows that ends at it, the rows
    before the first counting as zero. -/
def refOut (x : FVec F S32768x512 .f32) : FVec F S32768x512 .f32 :=
  Host.reduceWindowAdd ![32768, 1] ![1, 1] ![32767, 0] ![0, 0] x
    (broadcastInDim S_ ![] bcast_S_S_ (constant (F := F) S_ .f32 0x00000000#32))
    reduceWindows_S32768x512_S32768x512_w32768s1p32767_0_w1s1p0_0 h_S_

/-- The program's operations, in order. -/
abbrev ops : List (HloOp τ sig (Elt F)) :=
  [ nullary main_call0_call0_cst (constant S_ .f32 0x00000000#32),
    unary main_call0_call0_cst main_call0_call0_v0 (broadcastInDim S_ ![] bcast_S_S_),
    binary main_arg0 main_call0_call0_v0 main_v0 (fun x v => Host.reduceWindowAdd ![32768, 1] ![1, 1] ![32767, 0] ![0, 0] x v
      reduceWindows_S32768x512_S32768x512_w32768s1p32767_0_w1s1p0_0 h_S_) ]

theorem main_eq (c : Dev nD) : main (F := F) c = seq ops := rfl

theorem out_eq (V : Valuation τ sig (Elt F)) : after ops V (main_v0 : DevRef τ sig) = refOut (V (main_arg0 : DevRef τ sig)) := by
  after_results
  rfl

theorem arg_eq (V : Valuation τ sig (Elt F)) : after ops V (main_arg0 : DevRef τ sig) = V (main_arg0 : DevRef τ sig) := by
  after_results

theorem no_refs : (Finset.univ.filter fun b : Ref sig .tc => b.isScoped) = ∅ := by decide
theorem no_sems : (Finset.univ.filter fun sm : SemLoc sig => sm.isScoped .tc) = ∅ := by decide

theorem ops_sub : (ops : List (HloOp τ sig (Elt F))).Forall fun op => op.bufs ⊆ tcRefs τ sig :=
  ⟨nullary_bufs_sub .., unary_bufs_sub .., binary_bufs_sub ..⟩

/-- Every fair run of the reference, from any memory with zero counters, ends with the result array at the window sums of
    the argument, and the argument as it was. -/
theorem run_ref (m : (ℓ : Loc nD τ sig) → Buf (Elt F) ℓ) (ρ : Dev nD → PrngReg) :
    θ_run defs (onTc (τ := τ) (main (F := F))) ⟨m, fun _ => 0, ρ⟩ fun r =>
      ∀ c : Dev nD, r.2.mem ((c.tc : Thread nD τ).loc main_v0) = refOut (m ((c.tc : Thread nD τ).loc main_arg0))
        ∧ r.2.mem ((c.tc : Thread nD τ).loc main_arg0) = m ((c.tc : Thread nD τ).loc main_arg0) :=
  (θ_run defs _ _).mono (fun _ h c => ⟨(h c main_v0).trans (out_eq _), (h c main_arg0).trans (arg_eq _)⟩)
    (run_seq no_refs no_sems defs main (fun _ => ops) main_eq (fun _ => ops_sub) m ρ)

end Cert.Scan.Ref

end
-- ==== Proof.Sums.lean ====
module

public import proofs.«01_k».proof.Proof.Reference
public import Idealize.ShloMosaic.Lib.ValueIdx
public import Idealize.ShloMosaic.Lib.ValueIdxCore
public import Idealize.ShloMosaic.PureOps.Ideal.Laws
public import Idealize.ShloMosaic.Lib.IdealHost

/-! Sums over initial segments of the rows, and the reference's window sums as such sums. -/

@[expose] public section

noncomputable section

namespace Cert.Scan

open Idealize.ShloMosaic Idealize.ShloMosaic.ValueIdx
open scoped BigOperators

/-- Column `l` of an array of `n` rows, zero past the last row. -/
def col {n w : ℕ} (x : (⟨2, ![n, w]⟩ : Shape).Idx → EReal) (l : Fin w) (k : ℕ) : EReal :=
  if h : k < n then x (ix2 ⟨k, h⟩ l) else 0

theorem col_of_lt {n w : ℕ} (x : (⟨2, ![n, w]⟩ : Shape).Idx → EReal) (l : Fin w) {k : ℕ} (h : k < n) :
    col x l k = x (ix2 ⟨k, h⟩ l) := dif_pos h

/-- A sum over the rows is a sum over their numbers. -/
theorem sum_fin (n : ℕ) (f : Fin n → EReal) : ∑ k : Fin n, f k = ∑ k ∈ Finset.range n, if h : k < n then f ⟨k, h⟩ else 0 := by
  rw [← Fin.sum_univ_eq_sum_range (fun k => if h : k < n then f ⟨k, h⟩ else 0) n]
  exact Finset.sum_congr rfl fun k _ => by rw [dif_pos k.isLt]

/-- The sum of a whole column. -/
theorem sum_col {n w : ℕ} (x : (⟨2, ![n, w]⟩ : Shape).Idx → EReal) (l : Fin w) :
    ∑ k : Fin n, x (ix2 k l) = ∑ k ∈ Finset.range n, col x l k := sum_fin n fun k => x (ix2 k l)

/-- A sum restricted to the rows up to row `r` is the sum over them. -/
theorem sum_upto {n r : ℕ} (hr : r < n) (f : ℕ → EReal) :
    ∑ k ∈ Finset.range n, (if k ≤ r then f k else 0) = ∑ k ∈ Finset.range (r + 1), f k := by
  rw [← Finset.sum_filter]
  refine Finset.sum_congr ?_ fun _ _ => rfl
  ext k
  simp only [Finset.mem_filter, Finset.mem_range]
  omega

/-- A sum restricted to the first `c` is the sum over them. -/
theorem sum_before {n c : ℕ} (hc : c ≤ n) (f : ℕ → EReal) :
    ∑ k ∈ Finset.range n, (if k < c then f k else 0) = ∑ k ∈ Finset.range c, f k := by
  rw [← Finset.sum_filter]
  refine Finset.sum_congr ?_ fun _ _ => rfl
  ext k
  simp only [Finset.mem_filter, Finset.mem_range]
  omega

/-- Sums of consecutive blocks of `b` rows add up to the sum over all of them. -/
theorem sum_blocks (b c : ℕ) (f : ℕ → EReal) :
    ∑ s ∈ Finset.range c, ∑ k ∈ Finset.range b, f (b * s + k) = ∑ k ∈ Finset.range (b * c), f k := by
  induction c with
  | zero => simp
  | succ c ih => rw [Finset.sum_range_succ, ih, Nat.mul_succ, Finset.sum_range_add]

/-- The window that ends at row `j`, among `n` rows with `p` rows of zeros before them, holds the rows up to `j`. -/
theorem sum_window_end {n p j : ℕ} (hp : n = p + 1) (hj : j < n) (f : ℕ → EReal) :
    ∑ a ∈ Finset.range n, (if p ≤ j + a then f (j + a - p) else 0) = ∑ k ∈ Finset.range (j + 1), f k := by
  rw [← Finset.sum_filter]
  refine Finset.sum_nbij' (fun a => j + a - p) (fun k => k + p - j) ?_ ?_ ?_ ?_ fun _ _ => rfl
  all_goals
    intro a ha
    simp only [Finset.mem_filter, Finset.mem_range] at ha ⊢
    omega

/-- Adding up a list onto a start is the start plus the sum. -/
theorem foldl_add {ι : Type} (g : ι → EReal) (l : List ι) (r : EReal) : l.foldl (fun r n => r + g n) r = r + (l.map g).sum := by
  induction l generalizing r with
  | nil => simp
  | cons a l ih => rw [List.foldl_cons, ih, List.map_cons, List.sum_cons, add_assoc]

/-- The constant the windows start from is zero. -/
theorem init_zero : broadcastInDim Cert.ReferenceIdeal.S_ ![] Cert.ReferenceIdeal.Gen.bcast_S_S_
    (constant (F := Ideal) Cert.ReferenceIdeal.S_ .f32 0x00000000#32) (Shape.Idx.first Cert.ReferenceIdeal.Gen.h_S_) = 0 := by
  show Ideal.ofBits .f32 0x00000000#32 = 0
  exact Ideal.ofBits_zero_f32

/-- The sums of the windows of `n` rows of an array of `n` rows, with `n - 1` rows of zeros before it: the sums of the rows
    up to each row. -/
theorem window_apply {n p w : ℕ} (hp : n = p + 1) (x : (⟨2, ![n, w]⟩ : Shape).Idx → EReal)
    (h : (⟨2, ![n, w]⟩ : Shape).ReduceWindows ![n, 1] ![1, 1] ![p, 0] ![0, 0] ⟨2, ![n, w]⟩) (r : Fin n) (l : Fin w) :
    Ideal.hostReduceWindowAdd ![n, 1] ![1, 1] ![p, 0] ![0, 0] h x 0 (ix2 r l) = ∑ k ∈ Finset.range (r.val + 1), col x l k := by
  unfold Ideal.hostReduceWindowAdd Host.reduceWindow
  dsimp only
  rw [foldl_add, zero_add, ← Fin.sum_univ_def]
  rw [← Equiv.sum_comp (Shape.rowMajor ⟨2, ![n, 1]⟩)]
  simp only [Equiv.symm_apply_apply]
  rw [sum_idx2]
  simp only [Fin.sum_univ_one]
  rw [sum_fin, ← sum_window_end hp r.isLt (col x l)]
  refine Finset.sum_congr rfl fun a ha => ?_
  have ha' : a < n := Finset.mem_range.mp ha
  have hr := r.isLt
  have hl := l.isLt
  rw [dif_pos ha']
  by_cases hc : p ≤ r.val + a
  · have hk : r.val + a - p < n := by omega
    rw [if_pos hc, col_of_lt x l hk, dif_pos]
    · congr 1
      funext d
      refine Fin.ext ?_
      match d with
      | ⟨0, _⟩ => show r.val * 1 + a - p = r.val + a - p; omega
      | ⟨1, _⟩ => show l.val * 1 + 0 - 0 = l.val; omega
    · intro d
      match d with
      | ⟨0, _⟩ => exact ⟨show p ≤ r.val * 1 + a by omega, show r.val * 1 + a - p < n by omega⟩
      | ⟨1, _⟩ => exact ⟨show 0 ≤ l.val * 1 + 0 by omega, show l.val * 1 + 0 - 0 < w by omega⟩
  · rw [if_neg hc, dif_neg]
    intro H
    have h0 : p ≤ r.val * 1 + a := (H (0 : Fin 2)).1
    omega

/-- The reference's result at row `r`, column `l` is the sum of the rows up to row `r` of column `l`. -/
theorem refOut_apply (x : FVec Ideal ⟨2, ![32768, 512]⟩ .f32) (r : Fin 32768) (l : Fin 512) :
    Ref.refOut (F := Ideal) x (ix2 r l) = ∑ k ∈ Finset.range (r.val + 1), col x l k := by
  unfold Ref.refOut Host.reduceWindowAdd
  rw [init_zero, Ideal.hostReduceWindowAdd_def]
  exact window_apply (n := 32768) (p := 32767) rfl x _ r l

end Cert.Scan

end
-- ==== Proof.Protocol.lean ====
/-
The protocol of the cross-device scan, as data: which cells there are, who owes what to which cell, and what each
completion hands over.

Device `c` of the thirty-two

* signals the barrier cell of every device `t < c`, lending device `t` row `t` of its own landing buffer,
* waits for the `31 - c` units its own barrier cell is owed by the devices after it,
* copies its column sums into row `c` of the landing buffer of every device after it,
* waits for the `c` copies of the devices before it, and for its own `31 - c` copies to have left.

There are three families of cells per device: one barrier cell, thirty-one send cells (one per distance) and thirty-two
receive cells (one per sending device). Each has one round.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Ring
public import Idealize.ShloMosaic.Lib.Tactic
public import Mathlib.Algebra.BigOperators.Intervals

@[expose] public section

noncomputable section

namespace Cert.Scan

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The resource algebra: the pipeline's rounds and the scan's own (duties named by numbers) -/

abbrev UB : Type := URounds (GSem nD τ sig) ℕ
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory at launch: arbitrary contents, counters zero, arbitrary generator registers. -/
def s₀ : MemSt nD τ sig (Elt F) := ⟨m, fun _ => 0, ρ⟩

/-! ## Devices, semaphores and cells, by number -/

set_option backward.proofsInPublic true in
/-- Device number `n` (modulo the mesh's size). -/
def dv (n : ℕ) : Dev nD := ⟨n % 32, Nat.mod_lt _ (by decide)⟩
set_option backward.proofsInPublic true in
/-- The send semaphore of distance `j + 1`. -/
def sndSem (j : ℕ) : DmaSem sig := ⟨2 + j % 31, by have := Nat.mod_lt j (show 0 < 31 by decide); show _ < 65; omega⟩
set_option backward.proofsInPublic true in
/-- The receive semaphore of sender `s`. -/
def rcvSem (s : ℕ) : DmaSem sig := ⟨33 + s % 32, by have := Nat.mod_lt s (show 0 < 32 by decide); show _ < 65; omega⟩
/-- The runtime's barrier semaphore. -/
abbrev barS : Sem sig := (SemArray.scalar (sig.barrier 0 rfl) : Sems sig S_).sem

theorem dv_val {n : ℕ} (h : n < 32) : (dv n).val = n := Nat.mod_eq_of_lt h
theorem dv_self (c : Dev nD) : dv c.val = c := Fin.ext (Nat.mod_eq_of_lt c.isLt)
theorem dev_lt (c : Dev nD) : c.val < 32 := c.isLt

abbrev barC (c : Dev nD) : GSem nD τ sig := ((c : Thread nD τ), .reg barS)
abbrev sndC (c : Dev nD) (j : ℕ) : GSem nD τ sig := ((c : Thread nD τ), .dma (sndSem j))
abbrev rcvC (c : Dev nD) (s : ℕ) : GSem nD τ sig := ((c : Thread nD τ), .dma (rcvSem s))

/-! ## Memrefs -/

abbrev xM : Memref sig .tc .vmem S1024x512 .f32 := Memref.whole cc0_stg0_0
abbrev oM : Memref sig .tc .vmem S1024x512 .f32 := Memref.whole cc0_stg1_0
abbrev ownM : Memref sig .tc .vmem S1x512 .f32 := Memref.whole cc0_scratch0
abbrev commM : Memref sig .tc .vmem S32x1x512 .f32 := Memref.whole cc0_scratch1

theorem slot_inb (s : Dev nD) : ∀ a, (![s.val, 0, 0] : Fin 3 → ℕ) a + S1x1x512.size a ≤ S32x1x512.size a := by
  have := dev_lt s
  intro a; fin_cases a
  · show s.val + 1 ≤ 32; omega
  · show 0 + 1 ≤ 1; omega
  · show 0 + 512 ≤ 512; omega

/-- Row `s` of the landing buffer, as the copies name it. -/
def slotM (s : Dev nD) : Memref sig .tc .vmem S1x512 .f32 :=
  (commM.slice (Rect.unit (s := S32x1x512) ![s.val, 0, 0] S1x1x512.size (slot_inb s)) (fun _ => rfl)).squeeze S1x512 squeezes_S1x1x512_S1x512

abbrev slotSet (s : Dev nD) : Finset (cc0_scratch1 : Ref sig .tc).ty.Idx := (slotM s).view.set

theorem mem_slotSet (s : Dev nD) (y : S32x1x512.Idx) : y ∈ slotSet s ↔ (y 0).val = s.val := by
  have e : slotSet s = (Rect.unit (s := S32x1x512) ![s.val, 0, 0] S1x1x512.size (slot_inb s)).set := by
    show (((View.whole cc0_scratch1).slice _).reshape S1x512 _).set = _
    rw [View.set_reshape, View.set_slice_whole]
  rw [e, Rect.mem_set_unit]
  have h1 : (y 1).val < 1 := (y 1).isLt
  have h2 : (y 2).val < 512 := (y 2).isLt
  constructor
  · intro H; have h0 : s.val ≤ (y 0).val ∧ (y 0).val < s.val + 1 := H 0; omega
  · intro H a; fin_cases a
    · show s.val ≤ (y 0).val ∧ (y 0).val < s.val + 1; omega
    · show 0 ≤ (y 1).val ∧ (y 1).val < 0 + 1; omega
    · show 0 ≤ (y 2).val ∧ (y 2).val < 0 + 512; omega

theorem slotSet_disjoint {s t : Dev nD} (h : s ≠ t) : Disjoint (slotSet s) (slotSet t) := by
  rw [Finset.disjoint_left]
  intro y hs ht
  exact h (Fin.ext (((mem_slotSet s y).mp hs).symm.trans ((mem_slotSet t y).mp ht)))

theorem slotSet_biUnion : (Finset.univ : Finset (Dev nD)).biUnion slotSet = Finset.univ := by
  ext y
  simp only [Finset.mem_biUnion, Finset.mem_univ, true_and, iff_true]
  exact ⟨⟨(y 0).val, (y 0).isLt⟩, (mem_slotSet _ y).mpr rfl⟩

/-- A copy of one row. -/
abbrev N : ℕ := (slotM 0 : Memref sig .tc .vmem S1x512 .f32).view.dmaCredit
theorem N_pos : 0 < N := View.dmaCredit_pos _ (by decide)

/-! ## Contents -/

/-- Device `c`'s block of `x` as staged for the body. -/
def xstg (c : Dev nD) : (cc0_stg0_0 : Ref sig .tc).ty.Contents (Elt F) :=
  (win0_0.blk (0 : Fin 1)).view.read (Elt F) ((s₀ m ρ).mem ((c : Thread nD τ).loc main_arg0))

/-- The column sums of device `s`'s block. -/
def tot (s : Dev nD) : (cc0_scratch0 : Ref sig .tc).ty.Contents (Elt F) := k0_pay1 (xstg m ρ s)

/-- Every device's column sums, row by row. -/
def commAll : (cc0_scratch1 : Ref sig .tc).ty.Contents (Elt F) :=
  fun (y : S32x1x512.Idx) => tot m ρ (dv (y 0).val) (fun a => y a.succ : S1x512.Idx)

theorem slot_emb (s : Dev nD) (z : S1x512.Idx) :
    (slotM s).view.emb z = (Rect.unit (s := S32x1x512) ![s.val, 0, 0] S1x1x512.size (slot_inb s)).emb (Fin.cons ⟨0, Nat.one_pos⟩ z) := by
  show (((View.whole cc0_scratch1).slice _).reshape S1x512 _).emb z = _
  rw [View.emb_reshape, View.emb_slice, View.emb_whole]
  show (Rect.unit (s := S32x1x512) ![s.val, 0, 0] S1x1x512.size (slot_inb s)).emb (Shape.reshapeEquiv _ z) = _
  rw [Shape.reshapeEquiv_cons_one]

theorem slot_emb_val (s : Dev nD) (z : S1x512.Idx) (a : Fin 3) :
    ((slotM s).view.emb z a).val = (![s.val, 0, 0] : Fin 3 → ℕ) a + ((Fin.cons ⟨0, Nat.one_pos⟩ z : S1x1x512.Idx) a).val := by
  rw [slot_emb, Rect.emb_apply]
  show (![s.val, 0, 0] : Fin 3 → ℕ) a + 1 * _ = _
  rw [Nat.one_mul]

omit [FloatOps F] in
theorem write_own (s : Dev nD) (fd : (cc0_scratch1 : Ref sig .tc).ty.Contents (Elt F)) (fs : (cc0_scratch0 : Ref sig .tc).ty.Contents (Elt F)) (z : S1x512.Idx) :
    (slotM s).view.write (Elt F) fd (ownM.view.read (Elt F) fs) Finset.univ ((slotM s).view.emb z) = fs z :=
  (View.write_emb_of_mem _ _ (Finset.mem_univ z)).trans rfl

/-- A landed copy holds the sender's column sums. -/
theorem landed (s : Dev nD) (fd : (cc0_scratch1 : Ref sig .tc).ty.Contents (Elt F)) :
    ∀ y ∈ slotSet s, (slotM s).view.write (Elt F) fd (ownM.view.read (Elt F) (tot m ρ s)) Finset.univ y = commAll m ρ y := by
  intro (y : S32x1x512.Idx) hy
  obtain ⟨z, -, hz⟩ := Finset.mem_map.mp hy
  have hv : ∀ a : Fin 3, (y a).val = (![s.val, 0, 0] : Fin 3 → ℕ) a + ((Fin.cons ⟨0, Nat.one_pos⟩ z : S1x1x512.Idx) a).val :=
    fun a => by rw [← hz]; exact slot_emb_val s z a
  refine (congrArg _ hz.symm).trans ((write_own s fd (tot m ρ s) z).trans ?_)
  have h0 : (y 0).val = s.val := (hv 0).trans (Nat.add_zero _)
  show tot m ρ s z = tot m ρ (dv (y 0).val) (fun a => y a.succ : S1x512.Idx)
  rw [h0, dv_self]
  congr 1
  funext a
  refine Fin.ext ?_
  show _ = (y a.succ).val
  refine Eq.trans ?_ (hv a.succ).symm
  fin_cases a
  · exact (Nat.zero_add _).symm
  · exact (Nat.zero_add _).symm

/-! ## What the cells hand over -/

/-- Row `s` of device `d`'s landing buffer at contents `f`. -/
def slotPts (d s : Dev nD) (f : Buf (Elt F) ((slotM s).view.loc (d : Thread nD τ))) : sProp 𝕄 :=
  (slotM s).view.loc (d : Thread nD τ) ↦[(slotM s).view.set]{fullShare} f
/-- Device `c`'s buffer of column sums, at share `q`. -/
def ownPts (q : PosShare TreeShare) (c : Dev nD) : sProp 𝕄 :=
  ownM.view.loc (c : Thread nD τ) ↦[ownM.view.set]{q} tot m ρ c

omit [FloatOps F] in
instance slotPts_storable (d s : Dev nD) (f) : BI.Storable (upEmb : UEmb _ 𝕄) (slotPts (F := F) d s f) := by unfold slotPts; infer_instance
instance ownPts_storable (q) (c : Dev nD) : BI.Storable (upEmb : UEmb _ 𝕄) (ownPts (F := F) m ρ q c) := by unfold ownPts; infer_instance

/-- The share of its column sums a device keeps after lending `k` pieces; piece `k` is the left half of that. -/
def keep : ℕ → PosShare TreeShare
  | 0 => fullShare
  | k + 1 => (keep k).right

/-- The payload of device `d`'s signal to device `c`: row `c` of `d`'s landing buffer. -/
def barPay (c : Dev nD) (d : ℕ) : sProp 𝕄 := iprop(∃ f, slotPts (dv d) c f)
/-- The payload of a landed copy from `s` on device `c`. -/
def rcvPay (c : Dev nD) (s : ℕ) : sProp 𝕄 := slotPts c (dv s) (commAll m ρ)
/-- The payload of a departed copy: the lent piece of the column sums. -/
def sndPay (c : Dev nD) (j : ℕ) : sProp 𝕄 := ownPts m ρ (keep j).left c

omit [FloatOps F] in
instance barPay_storable (c : Dev nD) (d : ℕ) : BI.Storable (upEmb : UEmb _ 𝕄) (barPay (F := F) c d) := by unfold barPay; infer_instance
instance rcvPay_storable (c : Dev nD) (s : ℕ) : BI.Storable (upEmb : UEmb _ 𝕄) (rcvPay (F := F) m ρ c s) := slotPts_storable c (dv s) (commAll m ρ)
instance sndPay_storable (c : Dev nD) (j : ℕ) : BI.Storable (upEmb : UEmb _ 𝕄) (sndPay (F := F) m ρ c j) := ownPts_storable m ρ _ c

/-! ## The schedule -/

/-- The duties of a semaphore of device number `c`: a barrier semaphore has one per later device, a send semaphore one
    if the device at its distance exists, a receive semaphore one if its sender comes before `c`. -/
def dutyOf (c : ℕ) : SemLoc sig → Finset ℕ
  | .reg _ => Finset.Ico (c + 1) 32
  | .dma n => if n.val < 2 then ∅ else if n.val < 33 then (if n.val - 2 < 31 - c then {0} else ∅) else (if n.val - 33 < c then {0} else ∅)

def payOf (c : Dev nD) : SemLoc sig → ℕ → sProp 𝕄
  | .reg _, d => barPay c d
  | .dma n, _ => if n.val < 33 then sndPay m ρ c (n.val - 2) else rcvPay m ρ c (n.val - 33)

def amtOf : SemLoc sig → ℕ
  | .reg _ => 1
  | .dma _ => N

/-- One round per cell, round 0. -/
def sched : Rounds.Schedule (GSem nD τ sig) ℕ 𝕄 where
  duties g r := if r = 0 ∧ g.1.2 = .tc then dutyOf g.1.1.val g.2 else ∅
  unitless _ := False
  amount g _ _ := amtOf g.2
  payload g _ d := payOf m ρ g.1.1 g.2 d
  amount_pos g _ _ _ := by
    rcases g with ⟨_, _ | _⟩
    · exact Nat.one_pos
    · exact N_pos

instance sched_storable (g : GSem nD τ sig) (r : ℕ) (d : ℕ) :
    BI.Storable (upEmb : UEmb _ 𝕄) ((sched (F := F) m ρ).payload g r d) := by
  show BI.Storable upEmb (payOf m ρ g.1.1 g.2 d)
  rcases g with ⟨_, _ | n⟩
  · show BI.Storable upEmb (barPay _ d); infer_instance
  · show BI.Storable upEmb (if n.val < 33 then sndPay m ρ _ (n.val - 2) else rcvPay m ρ _ (n.val - 33)); split <;> infer_instance

theorem sndSem_val {j : ℕ} (h : j < 31) : (sndSem j).val = 2 + j := by show 2 + j % 31 = _; rw [Nat.mod_eq_of_lt h]
theorem rcvSem_val {s : ℕ} (h : s < 32) : (rcvSem s).val = 33 + s := by show 33 + s % 32 = _; rw [Nat.mod_eq_of_lt h]

section Sched
variable (c : Dev nD)

theorem duties_bar : (sched (F := F) m ρ).duties (barC c) 0 = Finset.Ico (c.val + 1) 32 := by
  dsimp only [sched]; exact if_pos ⟨rfl, rfl⟩

theorem duties_snd {j : ℕ} (hj : j < 31) : (sched (F := F) m ρ).duties (sndC c j) 0 = if j < 31 - c.val then {0} else ∅ := by
  dsimp only [sched]
  refine (if_pos ⟨rfl, rfl⟩).trans ?_
  show dutyOf c.val (.dma (sndSem j)) = _
  unfold dutyOf; dsimp only
  rw [sndSem_val hj, if_neg (by omega), if_pos (by omega), Nat.add_sub_cancel_left]

theorem duties_rcv {s : ℕ} (hs : s < 32) : (sched (F := F) m ρ).duties (rcvC c s) 0 = if s < c.val then {0} else ∅ := by
  dsimp only [sched]
  refine (if_pos ⟨rfl, rfl⟩).trans ?_
  show dutyOf c.val (.dma (rcvSem s)) = _
  unfold dutyOf; dsimp only
  rw [rcvSem_val hs, if_neg (by omega), if_neg (by omega), Nat.add_sub_cancel_left]

theorem duties_later (g : GSem nD τ sig) : ∀ r, 1 ≤ r → (sched (F := F) m ρ).duties g r = ∅ :=
  fun r hr => by dsimp only [sched]; exact if_neg fun h => by omega

theorem duties_never {g : GSem nD τ sig} (h : (sched (F := F) m ρ).duties g 0 = ∅) : ∀ r, 0 ≤ r → (sched (F := F) m ρ).duties g r = ∅ := by
  intro r _
  rcases r with _ | r
  · exact h
  · exact duties_later m ρ g _ (by omega)

theorem expect_bar : (sched (F := F) m ρ).expect (barC c) 0 = 31 - c.val := by
  unfold Schedule.expect Schedule.amountOf
  rw [duties_bar, Finset.sum_congr rfl fun d _ => show (sched (F := F) m ρ).amount (barC c) 0 d = 1 from rfl, Finset.sum_const, Nat.card_Ico, smul_eq_mul]
  omega
theorem expect_snd {j : ℕ} (hj : j < 31 - c.val) : (sched (F := F) m ρ).expect (sndC c j) 0 = N := by
  unfold Schedule.expect Schedule.amountOf; rw [duties_snd m ρ c (by omega), if_pos hj, Finset.sum_singleton]; rfl
theorem expect_rcv {s : ℕ} (hs : s < c.val) : (sched (F := F) m ρ).expect (rcvC c s) 0 = N := by
  have := dev_lt c
  unfold Schedule.expect Schedule.amountOf; rw [duties_rcv m ρ c (by omega), if_pos hs, Finset.sum_singleton]; rfl

theorem pay_bar (d : ℕ) : (sched (F := F) m ρ).payload (barC c) 0 d = barPay c d := rfl
theorem pay_snd {j : ℕ} (hj : j < 31) (d : ℕ) : (sched (F := F) m ρ).payload (sndC c j) 0 d = sndPay m ρ c j := by
  show payOf m ρ c (.dma (sndSem j)) d = _
  unfold payOf; dsimp only; rw [sndSem_val hj, if_pos (by omega), Nat.add_sub_cancel_left]
theorem pay_rcv {s : ℕ} (hs : s < 32) (d : ℕ) : (sched (F := F) m ρ).payload (rcvC c s) 0 d = rcvPay m ρ c s := by
  show payOf m ρ c (.dma (rcvSem s)) d = _
  unfold payOf; dsimp only; rw [rcvSem_val hs, if_neg (by omega), Nat.add_sub_cancel_left]

theorem rest_snd {j : ℕ} (hj : j < 31 - c.val) :
    bigSep ((sched (F := F) m ρ).duties (sndC c j) 0 \ ∅) (fun d => (sched (F := F) m ρ).payload (sndC c j) 0 d) = sndPay m ρ c j := by
  rw [Finset.sdiff_empty, duties_snd m ρ c (by omega), if_pos hj, bigSep_singleton, pay_snd m ρ c (by omega)]
theorem rest_rcv {s : ℕ} (hs : s < c.val) :
    bigSep ((sched (F := F) m ρ).duties (rcvC c s) 0 \ ∅) (fun d => (sched (F := F) m ρ).payload (rcvC c s) 0 d) = rcvPay m ρ c s := by
  have := dev_lt c
  rw [Finset.sdiff_empty, duties_rcv m ρ c (by omega), if_pos hs, bigSep_singleton, pay_rcv m ρ c (by omega)]

end Sched

/-! ## What each device owes; the levels -/

/-- The copies device `c` still owes after its first `k`: one to every later device, row `c`. -/
def oSend (c : Dev nD) (k : ℕ) : CellTallies nD τ sig Unit := ∑ j ∈ Finset.Ico k (31 - c.val), tallyAt (rcvC (dv (j + (c.val + 1))) c.val) () N
/-- The signals device `c` still owes after its first `k`: one to every earlier device, the nearest first. -/
def oSig (c : Dev nD) (k : ℕ) : CellTallies nD τ sig Unit := ∑ t ∈ Finset.range (c.val - k), tallyAt (barC (dv t)) () 1
/-- All that device `c` owes at launch. -/
def O₀ (c : Dev nD) : CellTallies nD τ sig Unit := oSend c 0 + oSig c 0

theorem oSig_step (c : Dev nD) {k : ℕ} (h : k < c.val) : oSig c k = oSig c (k + 1) + tallyAt (barC (dv (c.val - k - 1))) () 1 := by
  unfold oSig
  obtain ⟨t, ht⟩ : ∃ t, c.val - k = t + 1 := ⟨c.val - k - 1, by omega⟩
  rw [ht, Finset.sum_range_succ, show c.val - (k + 1) = t by omega, Nat.add_sub_cancel]
theorem oSig_done (c : Dev nD) {k : ℕ} (h : c.val ≤ k) : oSig c k = 0 := by
  unfold oSig; rw [show c.val - k = 0 by omega]; rfl
theorem oSend_step (c : Dev nD) {k : ℕ} (h : k < 31 - c.val) : oSend c k = oSend c (k + 1) + tallyAt (rcvC (dv (k + (c.val + 1))) c.val) () N := by
  unfold oSend; rw [Finset.sum_eq_sum_Ico_succ_bot h, add_comm]
theorem oSend_done (c : Dev nD) {k : ℕ} (h : 31 - c.val ≤ k) : oSend c k = 0 := by
  unfold oSend; rw [Finset.Ico_eq_empty (by omega)]; rfl

def L (g : GSem nD τ sig) : Finset Unit := if g.1.2 = .tc then {()} else ∅
def lvOf : SemLoc sig → ℕ
  | .reg _ => 1
  | .dma n => if n.val < 33 then 0 else 2
/-- Staging and send cells lie at level 0, barrier cells at 1, receive cells at 2. -/
def lv (g : GSem nD τ sig) (_ : Unit) : ℕ := lvOf g.2

theorem L_of_ne (g : GSem nD τ sig) (h : g.1.2 ≠ .tc) : L g = ∅ := if_neg h
theorem L_tc (c : Dev nD) (sm : SemLoc sig) : L ((c : Thread nD τ), sm) = {()} := if_pos rfl
theorem lv_rcv (c : Dev nD) (s : ℕ) (u : Unit) : lv (rcvC c s) u = 2 := by
  show (if (rcvSem s).val < 33 then 0 else 2) = 2
  rw [if_neg]; show ¬ 33 + s % 32 < 33; omega

theorem sum_pos_mem {ι : Type} (S : Finset ι) (T : ι → CellTallies nD τ sig Unit) {g : GSem nD τ sig} {u : Unit} (h : 0 < (∑ i ∈ S, T i) g u) :
    ∃ i ∈ S, 0 < T i g u := by
  rw [Finset.sum_apply, Finsupp.finset_sum_apply] at h
  by_contra hn
  push Not at hn
  exact absurd (Finset.sum_eq_zero fun i hi => Nat.le_zero.mp (hn i hi)) (Nat.pos_iff_ne_zero.mp h)

theorem tallyAt_pos_eq {g g' : GSem nD τ sig} {n : ℕ} {u : Unit} (h : 0 < (tallyAt g () n : CellTallies nD τ sig Unit) g' u) : g' = g := by
  rw [tallyAt_apply] at h
  by_contra hn
  rw [if_neg (fun h' => hn h'.1)] at h
  exact Nat.lt_irrefl 0 h

theorem oSend_pos {c : Dev nD} {k : ℕ} {g : GSem nD τ sig} {u : Unit} (h : 0 < oSend c k g u) : g.1.2 = .tc ∧ lv g u = 2 := by
  obtain ⟨j, -, hj⟩ := sum_pos_mem _ _ h
  rw [tallyAt_pos_eq hj]
  exact ⟨rfl, lv_rcv _ _ _⟩
theorem oSig_pos {c : Dev nD} {k : ℕ} {g : GSem nD τ sig} {u : Unit} (h : 0 < oSig c k g u) : g.1.2 = .tc ∧ lv g u = 1 := by
  obtain ⟨j, -, hj⟩ := sum_pos_mem _ _ h
  rw [tallyAt_pos_eq hj]
  exact ⟨rfl, rfl⟩
theorem O₀_pos {c : Dev nD} {g : GSem nD τ sig} {u : Unit} (h : 0 < O₀ c g u) : g.1.2 = .tc ∧ 0 < lv g u := by
  unfold O₀ at h
  rw [Pi.add_apply, Finsupp.add_apply] at h
  rcases Nat.eq_zero_or_pos (oSend c 0 g u) with h0 | h0
  · rw [h0, Nat.zero_add] at h
    obtain ⟨h1, h2⟩ := oSig_pos h; exact ⟨h1, by omega⟩
  · obtain ⟨h1, h2⟩ := oSend_pos h0; exact ⟨h1, by omega⟩

theorem L_of_tc {g : GSem nD τ sig} (h : g.1.2 = .tc) (u : Unit) : u ∈ L g := by
  unfold L; rw [if_pos h]; exact Finset.mem_singleton_self _

omit [FloatOps F] in
/-- Waiting on a cell that lies below everything owed is allowed. -/
theorem mayWait_below (c : Dev nD) (sm : SemLoc sig) (n : ℕ) (O : CellTallies nD τ sig Unit) (hs : lvOf sm ≤ n)
    (hO : ∀ g u, 0 < O g u → g.1.2 = .tc ∧ n < lv g u) : (levAts L lv : sProp 𝕄) ⊢ MayWait (c : Thread nD τ) sm () O :=
  MayOwe.of_cut (L := L) (lev := lv) n (fun p hp => by rw [Finset.mem_singleton.mp hp, L_tc]; exact Finset.mem_singleton_self _)
    (fun g u hg => L_of_tc (hO g u hg).1 u)
    (fun p hp => by rw [Finset.mem_singleton.mp hp]; exact hs)
    (fun g u hg => (hO g u hg).2)

omit [FloatOps F] in
/-- At its barrier waits a device owes copies only, into receive cells: above its barrier cell. -/
theorem mayWait_bar (c : Dev nD) (k : ℕ) : (levAts L lv : sProp 𝕄) ⊢ MayWait (c : Thread nD τ) (.reg barS) () (oSend c k) :=
  mayWait_below c _ 1 _ (le_refl _) fun g u hg => ⟨(oSend_pos hg).1, by rw [(oSend_pos hg).2]; decide⟩

omit [FloatOps F] in
theorem mayWait_stage (c : Dev nD) (q : DmaSem sig) (hq : q.val < 33) (O : CellTallies nD τ sig Unit) (hO : O = O₀ c ∨ O = 0) :
    (levAts L lv : sProp 𝕄) ⊢ MayWait (c : Thread nD τ) (.dma q) () O := by
  rcases hO with rfl | rfl
  · exact mayWait_below c _ 0 _ (by show (if q.val < 33 then 0 else 2) ≤ 0; rw [if_pos hq]) fun g u hg => O₀_pos hg
  · rw [MayWait_zero]; iintro -; iempintro

end Cert.Scan

end
-- ==== Proof.Steps.lean ====
/-
The five kinds of guarded step the body is made of, each once for every step number and every device: a signal, a wait
on the barrier cell, a remote copy, a wait on a receive cell, a wait on a send cell. Each statement takes the program
after the step as a parameter, the condition word `b` by what it decides, and the state of its phase before the step
(`k` steps done) to the state after it (`k + 1`); when the condition fails the two states are the same resources.
-/
module

public import proofs.«01_k».proof.Proof.Protocol
public import Idealize.SL.BI.BigOpNat

@[expose] public section

noncomputable section

namespace Cert.Scan

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

abbrev 𝒱₀ : Variants := Variants.none

/-- What has to hold for the program `J` to run on device `c`'s core and end in `Q`. -/
@[irreducible] def WP {α : Type} (c : Dev nD) (J : Prog (TpuEff nD τ sig (Elt F) Λ₀ .tc) α) (Q : α → sProp 𝕄) : sProp 𝕄 :=
  wp frame (wpE (defs₀ (F := F)) 𝒱₀ (c : Thread nD τ) none) Set.univ J Q
theorem WP_eq {α : Type} {c : Dev nD} (J : Prog (TpuEff nD τ sig (Elt F) Λ₀ .tc) α) (Q : α → sProp 𝕄) :
    WP c J Q = wp frame (wpE (defs₀ (F := F)) 𝒱₀ (c : Thread nD τ) none) Set.univ J Q := by unfold WP; rfl

/-! ## What every device knows -/

/-- A device's cells, indexed: the barrier cell, the send cells, the receive cells. -/
abbrev CI : Type := Unit ⊕ Fin 31 ⊕ Fin 32
abbrev csem : CI → SemLoc sig
  | .inl _ => .reg barS
  | .inr (.inl j) => .dma (sndSem j.val)
  | .inr (.inr s) => .dma (rcvSem s.val)
abbrev kcell (ck : Dev nD × CI) : GSem nD τ sig := ((ck.1 : Thread nD τ), csem ck.2)

/-- Every cell's invariant, that every cell has reached its round, and the levels. -/
def Ctx : sProp 𝕄 :=
  iprop((bigSep Finset.univ fun ck : Dev nD × CI => iprop(∃ κ : ℕ, cellInv ER (sched m ρ) κ (kcell ck)))
    ∗ (bigSep Finset.univ fun ck : Dev nD × CI => reached ER (kcell ck) 0) ∗ levAts L lv)

instance Ctx_persistent : BI.Persistent (Ctx m ρ) := by unfold Ctx; infer_instance

omit [FloatOps F] in
theorem pick {I : Type} [Fintype I] [DecidableEq I] (Φ : I → sProp 𝕄) (i : I) : bigSep Finset.univ Φ ⊢ Φ i := bigSep_elim (Finset.mem_univ i)

theorem ctx_inv (ck : Dev nD × CI) : Ctx m ρ ⊢ iprop(∃ κ : ℕ, cellInv ER (sched m ρ) κ (kcell ck)) := by
  unfold Ctx; iintro ⟨H, -, -⟩; iapply (pick (fun ck : Dev nD × CI => iprop(∃ κ : ℕ, cellInv ER (sched m ρ) κ (kcell ck))) ck); iexact H
theorem ctx_reached (ck : Dev nD × CI) : Ctx m ρ ⊢ reached ER (kcell ck) 0 := by
  unfold Ctx; iintro ⟨-, H, -⟩; iapply (pick (F := F) (fun ck : Dev nD × CI => reached ER (kcell ck) 0) ck); iexact H
theorem ctx_lev : Ctx m ρ ⊢ levAts L lv := by
  unfold Ctx; iintro ⟨-, -, H⟩; iexact H

theorem inv_bar (c : Dev nD) : Ctx m ρ ⊢ iprop(∃ κ : ℕ, cellInv ER (sched m ρ) κ (barC c)) := ctx_inv m ρ (c, .inl ())
theorem inv_snd (c : Dev nD) {j : ℕ} (h : j < 31) : Ctx m ρ ⊢ iprop(∃ κ : ℕ, cellInv ER (sched m ρ) κ (sndC c j)) := ctx_inv m ρ (c, .inr (.inl ⟨j, h⟩))
theorem inv_rcv (c : Dev nD) {s : ℕ} (h : s < 32) : Ctx m ρ ⊢ iprop(∃ κ : ℕ, cellInv ER (sched m ρ) κ (rcvC c s)) := ctx_inv m ρ (c, .inr (.inr ⟨s, h⟩))
theorem reached_bar (c : Dev nD) : Ctx m ρ ⊢ reached ER (barC c) 0 := ctx_reached m ρ (c, .inl ())
theorem reached_snd (c : Dev nD) {j : ℕ} (h : j < 31) : Ctx m ρ ⊢ reached ER (sndC c j) 0 := ctx_reached m ρ (c, .inr (.inl ⟨j, h⟩))
theorem reached_rcv (c : Dev nD) {s : ℕ} (h : s < 32) : Ctx m ρ ⊢ reached ER (rcvC c s) 0 := ctx_reached m ρ (c, .inr (.inr ⟨s, h⟩))

theorem ctx_mayWait (c : Dev nD) : Ctx m ρ ⊢ MayWait (c : Thread nD τ) (.reg barS) () (oSend c 0) := by
  refine BI.Entails.trans ?_ (mayWait_bar (F := F) c 0)
  unfold Ctx
  show _ ⊢ (levAts L lv : sProp 𝕄)
  iintro ⟨-, -, H⟩
  iexact H

/-- A position from which nothing more is expected: the cell can be closed. -/
def doneAt (g : GSem nD τ sig) : sProp 𝕄 :=
  iprop(∃ R : ℕ, ⌜∀ r, R ≤ r → (sched (F := F) m ρ).duties g r = ∅⌝ ∗ atPos ER g R ∅ 0)

theorem doneAt_next (g : GSem nD τ sig) : atPos ER g (0 + 1) ∅ 0 ⊢ doneAt m ρ g := by
  unfold doneAt; iintro H; iexists (0 + 1); isplitr; · (ipureintro; exact duties_later m ρ g)
  iexact H
theorem doneAt_never (g : GSem nD τ sig) (h : (sched (F := F) m ρ).duties g 0 = ∅) : atPos ER g 0 ∅ 0 ⊢ doneAt m ρ g := by
  unfold doneAt; iintro H; iexists 0; isplitr; · (ipureintro; exact duties_never m ρ h)
  iexact H

/-! ## Counting along a range -/

section Ranges
variable {M : Type} [URA M] (Φ : ℕ → sProp M)

/-- Elements done out of a bounded family, one more, within the bound; -/
theorem bigSep_min_succ {k n : ℕ} (h : k < n) : bigSep (Finset.range (min (k + 1) n)) Φ = iprop(Φ k ∗ bigSep (Finset.range (min k n)) Φ) := by
  rw [Nat.min_eq_left (by omega), Nat.min_eq_left (by omega), bigSep_range_succ]
/-- and past it. -/
theorem bigSep_min_stay {k n : ℕ} (h : n ≤ k) : bigSep (Finset.range (min (k + 1) n)) Φ = bigSep (Finset.range (min k n)) Φ := by
  rw [Nat.min_eq_right (by omega), Nat.min_eq_right (by omega)]
theorem bigSep_Ico_none {k n : ℕ} (h : n ≤ k) : bigSep (Finset.Ico k n) Φ = iprop(emp) := by
  rw [Finset.Ico_eq_empty_of_le h]; rfl
theorem join_sdiff {s t : Finset ℕ} (h : t ⊆ s) : iprop(bigSep t Φ ∗ bigSep (s \ t) Φ) ⊢ bigSep s Φ := by
  rw [bigSep_sdiff_split h]; exact BI.Entails.refl _
end Ranges

variable {α : Type}

/-! ## The signals -/

/-- After `k` signals: the ones left to give, each with its token and the row it lends. -/
def SigSt (c : Dev nD) (k : ℕ) : sProp 𝕄 :=
  iprop((∃ W, owes (c : Thread nD τ) (oSend c 0 + oSig c k) W)
    ∗ bigSep (Finset.range (c.val - k)) fun t => iprop(dutyTok ER (barC (dv t)) 0 c.val ∗ ∃ f, slotPts c (dv t) f))

theorem sig_step {R : sProp 𝕄} {Q : α → sProp 𝕄} {c : Dev nD} (k : ℕ) {b : BitVec 1} {dev : ℕ} {lt : b = 1#1 → dev < nD}
    {J : Prog (TpuEff nD τ sig (Elt F) Λ₀ .tc) α}
    (hb : b = 1#1 ↔ k < c.val) (hd : b = 1#1 → dev = c.val - k - 1)
    (h : iprop(Ctx m ρ ∗ R ∗ SigSt c (k + 1)) ⊢ WP c J Q) :
    iprop(Ctx m ρ ∗ R ∗ SigSt c k) ⊢ WP c
      (if h : b = 1#1 then (do semSignalWord (⟨dev, lt h⟩ : Dev nD) barS 1#32; J) else J) Q := by
  by_cases hc : b = 1#1
  · have hk := hb.mp hc
    have hlt := dev_lt c
    rw [dif_pos hc]
    have hdev : (⟨dev, lt hc⟩ : Dev nD) = dv (c.val - k - 1) := Fin.ext ((hd hc).trans (dv_val (by omega)).symm)
    rw [hdev]
    show _ ⊢ WP c
      (.op (.semSignal ((dv (c.val - k - 1) : Dev nD) : Thread nD τ) barS ((1 : ℕ) : ℤ)) fun _ => J) Q
    rw [WP_eq] at h ⊢
    unfold SigSt at h ⊢
    obtain ⟨t, ht⟩ : ∃ t, c.val - k = t + 1 := ⟨c.val - k - 1, by omega⟩
    rw [oSig_step c hk, ← add_assoc, ht, bigSep_range_succ, Nat.add_sub_cancel]
    rw [show c.val - (k + 1) = t by omega] at h
    iintro ⟨#HC, HR, ⟨%W, HO⟩, ⟨HT, HS⟩, Hrest⟩
    ihave HI := (inv_bar m ρ (dv t)) $$ HC
    icases HI with ⟨%κ, #HI⟩
    ihave #Hr := (reached_bar m ρ (dv t)) $$ HC
    iapply (Rounds.wp_signal 𝒱₀ ER (sched m ρ) (c : Thread nD τ) none (dst := (dv t : Thread nD τ)) (κ := κ) (r := 0) (k' := 1)
      (d := c.val) (by rw [duties_bar, dv_val (by omega)]; exact Finset.mem_Ico.mpr ⟨by omega, hlt⟩) rfl () (oSend c 0 + oSig c (k + 1)) rfl)
      $$ [HO HT HS]
    · isplitr; · iexact HI
      isplitl [HO]; · iexact HO
      isplitl [HT]; · iexact HT
      isplitl [HS]
      · rw [pay_bar]; unfold barPay; rw [dv_self]; iexact HS
      iexact Hr
    iintro HO
    iapply h
    isplitr; · iexact HC
    isplitl [HR]; · iexact HR
    isplitl [HO]
    · iexists W; iexact HO
    iexact Hrest
  · have hk : c.val ≤ k := Nat.le_of_not_lt fun h' => hc (hb.mpr h')
    rw [dif_neg hc]
    unfold SigSt at h ⊢
    rw [oSig_done c hk, show c.val - k = 0 by omega]
    rw [oSig_done c (by omega), show c.val - (k + 1) = 0 by omega] at h
    exact h

/-! ## The waits on the barrier cell -/

/-- After `k` units of the barrier cell are waited for: while units are missing, the devices heard of so far (a set `S`;
    which ones came first is not known) with the rows they lend; in the end all of them, and the cell is done. -/
def BarSt (c : Dev nD) (k : ℕ) : sProp 𝕄 :=
  iprop((∃ W, owes (c : Thread nD τ) (oSend c 0) W)
    ∗ if k < 31 - c.val then
        iprop(∃ S : Finset ℕ, ⌜S ⊆ Finset.Ico (c.val + 1) 32⌝ ∗ atPos ER (barC c) 0 S k
          ∗ cred (tallyAt (barC c) () (31 - c.val - k)) ∗ bigSep S fun d => barPay c d)
      else iprop(doneAt m ρ (barC c) ∗ bigSep (Finset.Ico (c.val + 1) 32) fun d => barPay c d))

/-- The phase starts from the cell's position and the credit for all its units. -/
theorem bar_start (c : Dev nD) :
    iprop((∃ W, owes (c : Thread nD τ) (oSend c 0) W) ∗ atPos ER (barC c) 0 ∅ 0 ∗ cred (tallyAt (barC c) () (31 - c.val))) ⊢ BarSt m ρ c 0 := by
  unfold BarSt
  have hlt := dev_lt c
  iintro ⟨HO, Hat, Hc⟩
  isplitl [HO]; · iexact HO
  by_cases h : 0 < 31 - c.val
  · rw [if_pos h, Nat.sub_zero]
    iexists ∅
    isplitr; · (ipureintro; exact Finset.empty_subset _)
    isplitl [Hat]; · iexact Hat
    isplitl [Hc]; · iexact Hc
    rw [bigSep_empty]; iempintro
  · rw [if_neg h, Finset.Ico_eq_empty_of_le (by omega), bigSep_empty]
    isplitl [Hat]
    · iapply (doneAt_never m ρ (barC c) (by rw [duties_bar, Finset.Ico_eq_empty_of_le (by omega)])); iexact Hat
    iempintro

theorem bar_step {R : sProp 𝕄} {Q : α → sProp 𝕄} {c : Dev nD} (k : ℕ) {b : BitVec 1}
    {J : Prog (TpuEff nD τ sig (Elt F) Λ₀ .tc) α} (hb : b = 1#1 ↔ k < 31 - c.val)
    (h : iprop(Ctx m ρ ∗ R ∗ BarSt m ρ c (k + 1)) ⊢ WP c J Q) :
    iprop(Ctx m ρ ∗ R ∗ BarSt m ρ c k) ⊢ WP c
      (if h : b = 1#1 then (do semWaitWord barS 1#32; J) else J) Q := by
  by_cases hc : b = 1#1
  · have hk := hb.mp hc
    have hlt := dev_lt c
    rw [dif_pos hc]
    show _ ⊢ WP c (.op (.semWait barS ((1 : ℕ) : ℤ)) fun _ => J) Q
    rw [WP_eq] at h ⊢
    unfold BarSt at h ⊢
    rw [if_pos hk]
    by_cases hl : k + 1 < 31 - c.val
    · rw [if_pos hl] at h
      rw [show 31 - c.val - k = (31 - c.val - (k + 1)) + 1 by omega, ← tallyAt_add]
      iintro ⟨#HC, HR, ⟨%W, HO⟩, ⟨%S, %hS, Hat, Hcr, HP⟩⟩
      ihave HI := (inv_bar m ρ c) $$ HC
      icases HI with ⟨%κ, #HI⟩
      ihave Hcr' := (cred_add (tallyAt (barC c) () (31 - c.val - (k + 1))) (tallyAt (barC c) () 1)).1 $$ Hcr
      icases Hcr' with ⟨Hcr, Hc1⟩
      iapply (Rounds.wp_wait 𝒱₀ ER (sched m ρ) (c : Thread nD τ) none (κ := κ) (wpE_semWait_eq 𝒱₀ (c : Thread nD τ) none Set.univ) (Set.mem_univ _)
        (cr := Finsupp.single () 1) (O := oSend c 0) (W := W) {((SemLoc.reg barS : SemLoc sig), ())} (R := 0) (m := k) (T := S)
        (Util.total_single () 1) (image_single_subset _ () 1)) $$ [HO Hat Hc1]
      · isplitr; · iexact HI
        isplitl [Hc1]; · iexact Hc1
        isplitl [HO]; · iexact HO
        isplitr
        · iapply (ctx_mayWait m ρ c); iexact HC
        iexact Hat
      iintro %S' ⟨%hS', HO, Hat, HP'⟩
      iapply h
      isplitr; · iexact HC
      isplitl [HR]; · iexact HR
      isplitl [HO]; · (iexists _; iexact HO)
      iexists S'
      isplitr; · (ipureintro; rw [← duties_bar m ρ c]; exact hS'.2.1)
      isplitl [Hat]; · iexact Hat
      isplitl [Hcr]; · iexact Hcr
      iapply (join_sdiff _ hS'.1)
      isplitl [HP]; · iexact HP
      iexact HP'
    · rw [if_neg hl] at h
      rw [show 31 - c.val - k = 1 by omega]
      iintro ⟨#HC, HR, ⟨%W, HO⟩, ⟨%S, %hS, Hat, Hc1, HP⟩⟩
      ihave HI := (inv_bar m ρ c) $$ HC
      icases HI with ⟨%κ, #HI⟩
      iapply (Rounds.wp_wait_rest_token 𝒱₀ ER (sched m ρ) (c : Thread nD τ) none (κ := κ) (wpE_semWait_eq 𝒱₀ (c : Thread nD τ) none Set.univ) (Set.mem_univ _)
        () (O := oSend c 0) (W := W) (R := 0) (m := k) (T := S) (k' := 1) (by rw [expect_bar]; omega)) $$ [HO Hat Hc1]
      · isplitr; · iexact HI
        isplitl [Hc1]; · iexact Hc1
        isplitl [HO]; · iexact HO
        isplitr
        · iapply (ctx_mayWait m ρ c); iexact HC
        iexact Hat
      iintro ⟨HO, Hat, -, HP'⟩
      iapply h
      isplitr; · iexact HC
      isplitl [HR]; · iexact HR
      isplitl [HO]; · (iexists _; iexact HO)
      isplitl [Hat]; · (iapply (doneAt_next m ρ (barC c)); iexact Hat)
      iapply (join_sdiff _ hS)
      isplitl [HP]; · iexact HP
      rw [duties_bar]
      iexact HP'
  · have hk : ¬ k < 31 - c.val := fun h' => hc (hb.mpr h')
    rw [dif_neg hc]
    unfold BarSt at h ⊢
    rw [if_neg hk]
    rw [if_neg (by omega)] at h
    exact h

/-! ## The remote copies -/

/-- After `k` copies: the ones left, each with its two tokens and the row lent to it; what is kept of the column sums;
    the credit for the copies under way. -/
def SendSt (c : Dev nD) (k : ℕ) : sProp 𝕄 :=
  iprop((∃ W, owes (c : Thread nD τ) (oSend c k) W)
    ∗ (bigSep (Finset.Ico k (31 - c.val)) fun j => iprop(dutyTok ER (rcvC (dv (j + (c.val + 1))) c.val) 0 0 ∗ dutyTok ER (sndC c j) 0 0
        ∗ barPay c (j + (c.val + 1))))
    ∗ ownPts m ρ (keep (min k (31 - c.val))) c
    ∗ bigSep (Finset.range (min k (31 - c.val))) fun j => cred (tallyAt (sndC c j) () N))

theorem ownPts_eq (q : PosShare TreeShare) (c : Dev nD) :
    ownPts m ρ q c = (ownM.view.loc (c : Thread nD τ) ↦[ownM.view.set]{q} tot m ρ c : sProp 𝕄) := rfl

/-- One copy, its operands given up to equality. -/
theorem send_op {R : sProp 𝕄} {Q : α → sProp 𝕄} {c : Dev nD} {k : ℕ} (hk : k < 31 - c.val) (n : Dev nD) (hn : n = dv (k + (c.val + 1)))
    (d : Memref sig (Dev.tc n : Thread nD τ).2.kind .vmem S1x512 .f32) (hd : d = slotM c) (rs ss : DmaSem sig) (hrs : rs = rcvSem c.val) (hss : ss = sndSem k)
    {hsc : d.view.ref.isScScratch = false} {hsrc : ownM.view.WordExact} {hdst : d.view.WordExact}
    {hsem : DmaTarget.Typed .vmem (.dma rs) (.remote (Dev.tc n : Thread nD τ) d (.dma ss) hsc)}
    {J : Prog (TpuEff nD τ sig (Elt F) Λ₀ .tc) α}
    (h : iprop(Ctx m ρ ∗ R ∗ SendSt m ρ c (k + 1)) ⊢ WP c J Q) :
    iprop(Ctx m ρ ∗ R ∗ SendSt m ρ c k) ⊢ WP c
      (.op (.enqueueDma ownM (.remote (Dev.tc n : Thread nD τ) d (.dma ss) hsc) (.dma rs) hsrc hdst hsem) fun _ => J) Q := by
  subst hn hd hrs hss
  rw [WP_eq] at h ⊢
  have hlt := dev_lt c
  have ht : (dv (k + (c.val + 1))).val = k + (c.val + 1) := dv_val (by omega)
  unfold SendSt at h ⊢
  rw [bigSep_min_succ _ hk, Nat.min_eq_left (show k + 1 ≤ 31 - c.val by omega)] at h
  rw [oSend_step c hk, bigSep_Ico_succ_bot hk, Nat.min_eq_left hk.le] at *
  iintro ⟨#HC, HR, ⟨%W, HO⟩, ⟨⟨HtR, HtS, Hsl⟩, Hrest⟩, Hown, Hcr⟩
  ihave HI := (inv_snd m ρ c (j := k) (by omega)) $$ HC
  icases HI with ⟨%κ₁, #HI₁⟩
  ihave HI := (inv_rcv m ρ (dv (k + (c.val + 1))) hlt) $$ HC
  icases HI with ⟨%κ₂, #HI₂⟩
  ihave #Hr₁ := (reached_snd m ρ c (j := k) (by omega)) $$ HC
  ihave #Hr₂ := (reached_rcv m ρ (dv (k + (c.val + 1))) hlt) $$ HC
  ihave Hown := (Entails.of_eq (ownPts_eq m ρ (keep k) c)) $$ Hown
  ihave Ho := (pointsTo_share (PosShare.mem_left_op_right (keep k))).1 $$ Hown
  icases Ho with ⟨Hlend, Hown⟩
  unfold barPay slotPts
  icases Hsl with ⟨%fd, Hsl⟩
  iapply (Rounds.wp_send_pointsTo 𝒱₀ ER (sched m ρ) (c : Thread nD τ) none (κ₁ := κ₁) (κ₂ := κ₂)
    (r₁ := 0) (r₂ := 0) (d₁ := 0) (d₂ := 0) (fd := fd) (q := (keep k).left) (fs := tot m ρ c)
    (by rw [duties_snd m ρ c (by omega), if_pos hk]; exact Finset.mem_singleton_self _)
    (by rw [duties_rcv m ρ _ hlt, if_pos (by omega)]; exact Finset.mem_singleton_self _)
    () () N rfl rfl rfl (oSend c (k + 1)) rfl (W := W)
    (by rw [pay_snd m ρ c (by omega)]; exact BI.Entails.refl _)
    (by rw [pay_rcv m ρ _ hlt]; unfold rcvPay slotPts; rw [dv_self, pointsTo_congr (landed m ρ c fd)])) $$ [HO HtR HtS Hsl Hlend]
  · isplitr; · iexact HI₁
    isplitr; · iexact HI₂
    isplitl [Hlend]; · iexact Hlend
    isplitl [Hsl]; · iexact Hsl
    isplitl [HO]; · iexact HO
    isplitl [HtS]; · iexact HtS
    isplitr; · iexact Hr₁
    isplitl [HtR]; · iexact HtR
    iexact Hr₂
  iintro ⟨Hc, HO⟩
  iapply h
  isplitr; · iexact HC
  isplitl [HR]; · iexact HR
  isplitl [HO]; · (iexists W; iexact HO)
  isplitl [Hrest]; · iexact Hrest
  isplitl [Hown]; · (unfold ownPts; iexact Hown)
  isplitl [Hc]; · iexact Hc
  iexact Hcr

theorem send_step {R : sProp 𝕄} {Q : α → sProp 𝕄} {c : Dev nD} (k : ℕ) {b : BitVec 1} {dev : ℕ} {lt : b = 1#1 → dev < nD}
    {d : (h : b = 1#1) → Memref sig (Dev.tc (⟨dev, lt h⟩ : Dev nD) : Thread nD τ).2.kind .vmem S1x512 .f32} {rs : b = 1#1 → DmaSem sig} {ss : DmaSem sig}
    {hsc : ∀ h, (d h).view.ref.isScScratch = false} {hsrc : b = 1#1 → ownM.view.WordExact} {hdst : ∀ h, (d h).view.WordExact}
    {hsem : ∀ h, DmaTarget.Typed .vmem (.dma (rs h)) (.remote (Dev.tc (⟨dev, lt h⟩ : Dev nD) : Thread nD τ) (d h) (.dma ss) (hsc h))}
    {J : Prog (TpuEff nD τ sig (Elt F) Λ₀ .tc) α}
    (hb : b = 1#1 ↔ k < 31 - c.val) (hdev : b = 1#1 → dev = k + (c.val + 1)) (hd : ∀ h, d h = slotM c) (hrs : ∀ h, rs h = rcvSem c.val) (hss : ss = sndSem k)
    (h : iprop(Ctx m ρ ∗ R ∗ SendSt m ρ c (k + 1)) ⊢ WP c J Q) :
    iprop(Ctx m ρ ∗ R ∗ SendSt m ρ c k) ⊢ WP c
      (if h : b = 1#1 then (do
        Prog.lift (.enqueueDma ownM (.remote (Dev.tc (⟨dev, lt h⟩ : Dev nD) : Thread nD τ) (d h) (.dma ss) (hsc h)) (.dma (rs h)) (hsrc h) (hdst h) (hsem h))
        J) else J) Q := by
  by_cases hc : b = 1#1
  · have hk := hb.mp hc
    have hlt := dev_lt c
    rw [dif_pos hc]
    exact send_op m ρ hk _ (Fin.ext ((hdev hc).trans (dv_val (by omega)).symm)) (d hc) (hd hc) _ _ (hrs hc) hss h
  · have hk : 31 - c.val ≤ k := Nat.le_of_not_lt fun h' => hc (hb.mpr h')
    rw [dif_neg hc]
    unfold SendSt at h ⊢
    rw [oSend_done c hk, bigSep_Ico_none _ hk, Nat.min_eq_right hk]
    rw [oSend_done c (by omega), bigSep_Ico_none _ (by omega), Nat.min_eq_right (by omega)] at h
    exact h

/-! ## The waits on the receive and send cells -/

/-- A run of waits on the cells `sem 0, sem 1, …, sem (n - 1)`, one copy each, `k` of them done: the credit and the
    position of each one left, and each one done with what it handed over. -/
def WaitSt (sem : ℕ → DmaSem sig) (pay : ℕ → sProp 𝕄) (n : ℕ) (c : Dev nD) (k : ℕ) : sProp 𝕄 :=
  iprop((∃ W, owes (c : Thread nD τ) 0 W)
    ∗ (bigSep (Finset.Ico k n) fun j => iprop(cred (tallyAt ((c : Thread nD τ), (.dma (sem j) : SemLoc sig)) () N)
        ∗ atPos ER ((c : Thread nD τ), (.dma (sem j) : SemLoc sig)) 0 ∅ 0))
    ∗ bigSep (Finset.range (min k n)) fun j => iprop(doneAt m ρ ((c : Thread nD τ), (.dma (sem j) : SemLoc sig)) ∗ pay j))

theorem wait_step {R : sProp 𝕄} {Q : α → sProp 𝕄} {c : Dev nD} {sem : ℕ → DmaSem sig} {pay : ℕ → sProp 𝕄} {n : ℕ} (k : ℕ) {b : BitVec 1}
    (hI : ∀ j, j < n → Ctx m ρ ⊢ iprop(∃ κ : ℕ, cellInv ER (sched m ρ) κ ((c : Thread nD τ), (.dma (sem j) : SemLoc sig))))
    (hE : ∀ j, j < n → (sched (F := F) m ρ).expect ((c : Thread nD τ), (.dma (sem j) : SemLoc sig)) 0 = N)
    (hP : ∀ j, j < n → bigSep ((sched (F := F) m ρ).duties ((c : Thread nD τ), (.dma (sem j) : SemLoc sig)) 0 \ ∅)
      (fun d => (sched (F := F) m ρ).payload ((c : Thread nD τ), (.dma (sem j) : SemLoc sig)) 0 d) = pay j)
    {s : DmaSem sig} {sp sp' : Space} {e e' : EltTy} {sh sh' : Shape} {src : b = 1#1 → Memref sig .tc sp sh e} {dst : Memref sig .tc sp' sh' e'}
    {hsrc : ∀ h, (src h).view.WordExact} {hdst : b = 1#1 → dst.view.WordExact}
    {J : Prog (TpuEff nD τ sig (Elt F) Λ₀ .tc) α}
    (hb : b = 1#1 ↔ k < n) (hs : s = sem k) (hN : dst.view.dmaCredit = N)
    (h : iprop(Ctx m ρ ∗ R ∗ WaitSt m ρ sem pay n c (k + 1)) ⊢ WP c J Q) :
    iprop(Ctx m ρ ∗ R ∗ WaitSt m ρ sem pay n c k) ⊢ WP c
      (if h : b = 1#1 then (do Prog.lift (.waitDma2 s (src h) dst (hsrc h) (hdst h)); J) else J) Q := by
  by_cases hc : b = 1#1
  · have hk := hb.mp hc
    rw [dif_pos hc]
    show _ ⊢ WP c (.op (.waitDma2 s (src hc) dst (hsrc hc) (hdst hc)) fun _ => J) Q
    rw [WP_eq] at h ⊢
    subst hs
    unfold WaitSt at h ⊢
    rw [bigSep_min_succ _ hk] at h
    rw [bigSep_Ico_succ_bot hk]
    iintro ⟨#HC, HR, ⟨%W, HO⟩, ⟨⟨Hc, Hat⟩, Hrest⟩, Hdone⟩
    ihave HI := (hI k hk) $$ HC
    icases HI with ⟨%κ, #HI⟩
    iapply (Rounds.wp_wait_rest_token 𝒱₀ ER (sched m ρ) (c : Thread nD τ) none (κ := κ) (wpE_waitDma2_eq 𝒱₀ (c : Thread nD τ) none Set.univ) (Set.mem_univ _)
      () (O := 0) (W := W) (R := 0) (m := 0) (T := ∅) (by rw [Nat.zero_add, hE k hk, hN])) $$ [HO Hat Hc]
    · isplitr; · iexact HI
      isplitl [Hc]; · (rw [hN]; iexact Hc)
      isplitl [HO]; · iexact HO
      isplitr; · (rw [MayWait_zero]; iempintro)
      iexact Hat
    iintro ⟨HO, Hat, -, HP⟩
    iapply h
    isplitr; · iexact HC
    isplitl [HR]; · iexact HR
    isplitl [HO]; · (iexists _; iexact HO)
    isplitl [Hrest]; · iexact Hrest
    isplitl [Hat HP]
    · isplitl [Hat]; · (iapply (doneAt_next m ρ); iexact Hat)
      ihave HP := (Entails.of_eq (hP k hk)) $$ HP
      iexact HP
    iexact Hdone
  · have hk : n ≤ k := Nat.le_of_not_lt fun h' => hc (hb.mpr h')
    rw [dif_neg hc]
    unfold WaitSt at h ⊢
    rw [bigSep_Ico_none _ hk, Nat.min_eq_right hk]
    rw [bigSep_Ico_none _ (by omega), Nat.min_eq_right (by omega)] at h
    exact h

/-- The waits for the copies of the devices before `c`; -/
abbrev RcvSt (c : Dev nD) (k : ℕ) : sProp 𝕄 := WaitSt m ρ rcvSem (rcvPay m ρ c) c.val c k
/-- and for the device's own copies to have left. -/
abbrev SndSt (c : Dev nD) (k : ℕ) : sProp 𝕄 := WaitSt m ρ sndSem (sndPay m ρ c) (31 - c.val) c k

end Cert.Scan

end
-- ==== Proof.Vec.lean ====
module

public import proofs.«01_k».proof.Proof.Steps
public import Idealize.ShloMosaic.Lib.WritesUnit

/-! What the vector statements compute, and the steps that load from and store to the staged buffers. A block is scanned
    in eight chunks of 128 rows: each chunk's running sums are a product with the lower triangle of ones, to which the sum
    of the chunks before it is added. -/

@[expose] public section

noncomputable section

namespace Cert.Scan

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)
variable {α : Type} {c : Dev nD}

/-! ## The values -/

/-- The index in the block of index `y` of chunk `k`. -/
def rowIx (k : ℕ) (y : S128x512.Idx) : S1024x512.Idx := fun a : Fin 2 => match a with
  | 0 => ⟨(128 * k + (y 0).val) % 1024, Nat.mod_lt _ (by decide)⟩
  | 1 => y 1
/-- Chunk `k` of a block. -/
def seg (x : Vec F S1024x512 .f32) (k : ℕ) : Vec F S128x512 .f32 := fun y => x (rowIx k y)
/-- The sums along a chunk. -/
def segScan (s : Vec F S128x512 .f32) : FVec F S128x512 .f32 := k0_pay10 (k0_pay2 (F := F)) s
/-- The column sums of the chunks before chunk `k`. -/
def run (x : Vec F S1024x512 .f32) : ℕ → FVec F S1x512 .f32
  | 0 => k0_pay3
  | k + 1 => addf (run x k) (extractStridedSlice S1x512 ![127, 0] (segScan (seg x k)) slices_S128x512_o127_0_S1x512)
/-- Chunk `k` of the block's own cumulative sums. -/
def chunkOut (x : Vec F S1024x512 .f32) (k : ℕ) : FVec F S128x512 .f32 :=
  addf (segScan (seg x k)) (broadcastTo S128x512 (run x k) broadcasts_S1x512_S128x512)
/-- The index within its chunk of an index of the block. -/
def inChunk (y : S1024x512.Idx) : S128x512.Idx := fun a : Fin 2 => match a with
  | 0 => ⟨(y 0).val % 128, Nat.mod_lt _ (by decide)⟩
  | 1 => y 1
/-- The block's own cumulative sums. -/
def scanOf (x : Vec F S1024x512 .f32) : Vec F S1024x512 .f32 := fun y => chunkOut x ((y 0).val / 128) (inChunk y)

section Chunks
variable (x : Vec F S1024x512 .f32)

theorem out0 : k0_pay5 (seg x 0) = chunkOut x 0 := rfl
theorem run1 : k0_pay6 (seg x 0) = run x 1 := rfl
theorem scan1 : k0_pay7 (seg x 1) = segScan (seg x 1) := rfl
theorem out1 : k0_pay8 (seg x 0) (seg x 1) = chunkOut x 1 := rfl
theorem out2 : k0_pay11 (k0_pay2 (F := F)) (run x 1) (segScan (seg x 1)) (seg x 2) = chunkOut x 2 := rfl
theorem out3 : k0_pay14 (k0_pay2 (F := F)) (run x 1) (segScan (seg x 1)) (seg x 2) (seg x 3) = chunkOut x 3 := rfl
theorem out4 : k0_pay17 (k0_pay2 (F := F)) (run x 1) (segScan (seg x 1)) (seg x 2) (seg x 3) (seg x 4) = chunkOut x 4 := rfl
theorem run5 : k0_pay18 (k0_pay2 (F := F)) (run x 1) (segScan (seg x 1)) (seg x 2) (seg x 3) (seg x 4) = run x 5 := rfl
theorem scan5 : k0_pay19 (k0_pay2 (F := F)) (seg x 5) = segScan (seg x 5) := rfl
theorem out5 : k0_pay20 (k0_pay2 (F := F)) (run x 1) (segScan (seg x 1)) (seg x 2) (seg x 3) (seg x 4) (seg x 5) = chunkOut x 5 := rfl
theorem run6 : k0_pay21 (run x 5) (segScan (seg x 5)) = run x 6 := rfl
theorem out6 : k0_pay23 (k0_pay2 (F := F)) (run x 6) (seg x 6) = chunkOut x 6 := rfl
theorem out7 : k0_pay24 (k0_pay2 (F := F)) (run x 6) (seg x 6) (seg x 7) = chunkOut x 7 := rfl
end Chunks

omit [FloatOps F] in
/-- Reading 128 rows of the block from row `128 k` reads chunk `k`. -/
theorem read_seg (x : Vec F S1024x512 .f32) (k : ℕ) (hk : k < 8) {off : Fin 2 → ℕ} (hoff : off = ![128 * k, 0])
    (inb : ∀ a, off a + S128x512.size a ≤ S1024x512.size a) :
    xM.view.readAt (Elt F) (Rect.unit (s := S1024x512) off S128x512.size inb).toLoadRect x = seg x k := by
  subst hoff
  funext (y : S128x512.Idx)
  show x _ = x _
  congr 1
  funext a
  refine Fin.ext ?_
  have h0 : (y 0).val < 128 := (y 0).isLt
  match a with
  | 0 => show 128 * k + 1 * (y 0).val = (128 * k + (y 0).val) % 1024; omega
  | 1 => show 0 + 1 * (y 1).val = (y 1).val; omega

/-- The output buffer holds the block's cumulative sums in its first `k` chunks. -/
def UpTo (x : Vec F S1024x512 .f32) (k : ℕ) (f : Vec F S1024x512 .f32) : Prop := ∀ y : S1024x512.Idx, (y 0).val < 128 * k → f y = scanOf x y

theorem upTo_zero (x f : Vec F S1024x512 .f32) : UpTo x 0 f := fun y h => absurd h (by omega)
theorem upTo_all {x f : Vec F S1024x512 .f32} (h : UpTo x 8 f) : f = scanOf x :=
  funext fun (y : S1024x512.Idx) => h y (show (y 0).val < 1024 from (y 0).isLt)

/-- What a store of 128 rows of the output buffer leaves, index by index. -/
theorem write_rows (f : Vec F S1024x512 .f32) (w : Vec F S128x512 .f32) (k : ℕ) {off : Fin 2 → ℕ} (hoff : off = ![128 * k, 0])
    (inb : ∀ a, off a + S128x512.size a ≤ S1024x512.size a) (y : S1024x512.Idx) :
    (oM.access (Rect.unit (s := S1024x512) off S128x512.size inb)).write (Elt F) f w Finset.univ y
      = if 128 * k ≤ (y 0).val ∧ (y 0).val < 128 * k + 128 then w (inChunk y) else f y := by
  have e : (oM.access (Rect.unit (s := S1024x512) off S128x512.size inb)).write (Elt F) f w Finset.univ
      = oM.view.read (Elt F) (oM.view.writes (Elt F) f [⟨Rect.unit (s := S1024x512) off S128x512.size inb, w⟩]) := by
    rw [View.writes_cons, View.writes_nil]
    exact (View.read_whole cc0_stg1_0 _).symm
  rw [e]
  by_cases hc : 128 * k ≤ (y 0).val ∧ (y 0).val < 128 * k + 128
  · rw [if_pos hc]
    refine View.read_writes_cons_rows_of_mem (Val := Elt F) (o := 128 * k) oM.view f inb w [] y (inChunk y) hoff ?_ ?_
    · show (y 0).val = 128 * k + (y 0).val % 128
      omega
    · rfl
  · rw [if_neg hc]
    exact View.read_writes_cons_rows_of_not_mem (Val := Elt F) (W := 128) (o := 128 * k) oM.view f inb w [] y hoff rfl (by omega)

/-- Storing chunk `k` extends it by one. -/
theorem upTo_store {x f : Vec F S1024x512 .f32} {k : ℕ} (h : UpTo x k f) {off : Fin 2 → ℕ} (hoff : off = ![128 * k, 0])
    (inb : ∀ a, off a + S128x512.size a ≤ S1024x512.size a) :
    UpTo x (k + 1) ((oM.access (Rect.unit (s := S1024x512) off S128x512.size inb)).write (Elt F) f (chunkOut x k) Finset.univ) := by
  intro y hy
  rw [write_rows f (chunkOut x k) k hoff inb y]
  by_cases hc : 128 * k ≤ (y 0).val
  · rw [if_pos ⟨hc, by omega⟩]
    unfold scanOf
    rw [show (y 0).val / 128 = k by omega]
  · rw [if_neg (fun h' => hc h'.1)]
    exact h y (by omega)

/-! ## The steps -/

variable {α : Type} {c : Dev nD}

/-- The staged block, and the output's first `k` chunks. -/
def VecSt (c : Dev nD) (k : ℕ) : sProp 𝕄 :=
  iprop((((c : Thread nD τ).loc cc0_stg0_0) ↦{fullShare} xstg m ρ c)
    ∗ ∃ f : Vec F S1024x512 .f32, ⌜UpTo (xstg m ρ c) k f⌝ ∗ (((c : Thread nD τ).loc cc0_stg1_0) ↦{fullShare} f))

/-- A load from the staged block. -/
theorem load_x {R : sProp 𝕄} {Q : α → sProp 𝕄} {k : ℕ} {r : LoadRect S1024x512} {hl : xM.view.LoadsAt r}
    {K : (r.shape.Idx → Elt F .f32) → Prog (TpuEff nD τ sig (Elt F) Λ₀ .tc) α}
    (h : iprop(Ctx m ρ ∗ R ∗ VecSt m ρ c k) ⊢ WP c (K (xM.view.readAt (Elt F) r (xstg m ρ c))) Q) :
    iprop(Ctx m ρ ∗ R ∗ VecSt m ρ c k) ⊢ WP c (Prog.lift (.load xM r hl) >>= K) Q := by
  show _ ⊢ WP c (.op (.load xM r hl) fun v => K v) Q
  rw [WP_eq] at h ⊢
  unfold VecSt at h ⊢
  iintro ⟨HC, HR, Hx, HO⟩
  iapply (wp_load 𝒱₀ (c : Thread nD τ) none Set.univ (m := xM) (Finset.subset_univ _)) $$ Hx
  iintro Hx
  iapply h
  isplitl [HC]; · iexact HC
  isplitl [HR]; · iexact HR
  isplitl [Hx]; · iexact Hx
  iexact HO

/-- A load of chunk `k` of the staged block. -/
theorem load_seg {R : sProp 𝕄} {Q : α → sProp 𝕄} {k : ℕ} (j : ℕ) {off : Fin 2 → ℕ} {inb : ∀ a, off a + S128x512.size a ≤ S1024x512.size a}
    {hl : xM.view.LoadsAt (Rect.unit (s := S1024x512) off S128x512.size inb).toLoadRect}
    {K : Vec F S128x512 .f32 → Prog (TpuEff nD τ sig (Elt F) Λ₀ .tc) α}
    (hj : j < 8) (hoff : off = ![128 * j, 0])
    (h : iprop(Ctx m ρ ∗ R ∗ VecSt m ρ c k) ⊢ WP c (K (seg (xstg m ρ c) j)) Q) :
    iprop(Ctx m ρ ∗ R ∗ VecSt m ρ c k) ⊢ WP c (Prog.lift (.load xM (Rect.unit (s := S1024x512) off S128x512.size inb).toLoadRect hl) >>= K) Q := by
  refine load_x m ρ ?_
  rw [read_seg (xstg m ρ c) j hj hoff inb]
  exact h

/-- A load from the output buffer whose value is not used. -/
theorem load_o {R : sProp 𝕄} {Q : α → sProp 𝕄} {k : ℕ} {r : LoadRect S1024x512} {hl : oM.view.LoadsAt r}
    {K : (r.shape.Idx → Elt F .f32) → Prog (TpuEff nD τ sig (Elt F) Λ₀ .tc) α}
    (h : ∀ v, iprop(Ctx m ρ ∗ R ∗ VecSt m ρ c k) ⊢ WP c (K v) Q) :
    iprop(Ctx m ρ ∗ R ∗ VecSt m ρ c k) ⊢ WP c (Prog.lift (.load oM r hl) >>= K) Q := by
  show _ ⊢ WP c (.op (.load oM r hl) fun v => K v) Q
  simp only [WP_eq] at h ⊢
  unfold VecSt at h ⊢
  iintro ⟨HC, HR, Hx, ⟨%f, %hf, HO⟩⟩
  iapply (wp_load 𝒱₀ (c : Thread nD τ) none Set.univ (m := oM) (Finset.subset_univ _)) $$ HO
  iintro HO
  iapply (h (oM.view.readAt (Elt F) r f))
  isplitl [HC]; · iexact HC
  isplitl [HR]; · iexact HR
  isplitl [Hx]; · iexact Hx
  iexists f
  isplitr; · (ipureintro; exact hf)
  iexact HO

/-- The store of chunk `k`. -/
theorem store_o {R : sProp 𝕄} {Q : α → sProp 𝕄} (k : ℕ) {off : Fin 2 → ℕ} {inb : ∀ a, off a + S128x512.size a ≤ S1024x512.size a}
    {w : FVec F S128x512 .f32} {hx : (oM.access (Rect.unit (s := S1024x512) off S128x512.size inb)).Stores Finset.univ}
    {hm : (Finset.univ : Finset (Rect.unit (s := S1024x512) off S128x512.size inb).shape.Idx) = Finset.univ ∨ ∀ a, (Rect.unit (s := S1024x512) off S128x512.size inb).stride a = 1}
    {K : PUnit → Prog (TpuEff nD τ sig (Elt F) Λ₀ .tc) α}
    (hoff : off = ![128 * k, 0]) (hw : w = chunkOut (xstg m ρ c) k)
    (h : iprop(Ctx m ρ ∗ R ∗ VecSt m ρ c (k + 1)) ⊢ WP c (K ⟨⟩) Q) :
    iprop(Ctx m ρ ∗ R ∗ VecSt m ρ c k) ⊢ WP c (Prog.lift (.store oM (Rect.unit (s := S1024x512) off S128x512.size inb) w Finset.univ hx hm) >>= K) Q := by
  subst hw
  show _ ⊢ WP c (.op (.store oM (Rect.unit (s := S1024x512) off S128x512.size inb) _ Finset.univ hx hm) fun v => K v) Q
  rw [WP_eq] at h ⊢
  unfold VecSt at h ⊢
  iintro ⟨HC, HR, Hx, ⟨%f, %hf, HO⟩⟩
  iapply (wp_store 𝒱₀ (c : Thread nD τ) none Set.univ (m := oM) (r := Rect.unit (s := S1024x512) off S128x512.size inb) (Mk := Finset.univ) (Finset.subset_univ _)) $$ HO
  iintro HO
  iapply h
  isplitl [HC]; · iexact HC
  isplitl [HR]; · iexact HR
  isplitl [Hx]; · iexact Hx
  iexists ((oM.access (Rect.unit (s := S1024x512) off S128x512.size inb)).write (Elt F) f (chunkOut (xstg m ρ c) k) Finset.univ)
  isplitr; · (ipureintro; exact upTo_store hf hoff inb)
  iexact HO

end Cert.Scan

end
-- ==== Proof.Phases.lean ====
module

public import proofs.«01_k».proof.Proof.Vec

/-! What a device holds between the phases of the body, and how one phase hands over to the next. -/

@[expose] public section

noncomputable section

namespace Cert.Scan

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)
variable {α : Type} {c : Dev nD}

/-- The device's own number, as the kernel computes it. -/
abbrev word (c : Dev nD) : BitVec 32 := Scalar.remsi (Scalar.divsi (Dev.word c) 1#32) 32#32

/-! ## Regrouping what is held -/

/-- What is held besides the shared knowledge may be regrouped. -/
theorem regroup {R S R' S' G : sProp 𝕄} (hp : iprop(R ∗ S) ⊢ iprop(R' ∗ S')) (h : iprop(Ctx m ρ ∗ R' ∗ S') ⊢ G) :
    iprop(Ctx m ρ ∗ R ∗ S) ⊢ G := by
  iintro ⟨HC, HR⟩
  iapply h
  isplitl [HC]; · iexact HC
  iapply hp
  iexact HR

/-- The last part of the frame comes to the front; -/
theorem swap1 {R A B G : sProp 𝕄} (h : iprop(Ctx m ρ ∗ (R ∗ B) ∗ A) ⊢ G) : iprop(Ctx m ρ ∗ (R ∗ A) ∗ B) ⊢ G := by
  refine regroup m ρ ?_ h
  iintro ⟨⟨HR, HA⟩, HB⟩
  isplitl [HR HB]
  · isplitl [HR]; · iexact HR
    iexact HB
  iexact HA

/-- the last but one does. -/
theorem swap2 {R A B C G : sProp 𝕄} (h : iprop(Ctx m ρ ∗ ((R ∗ C) ∗ B) ∗ A) ⊢ G) : iprop(Ctx m ρ ∗ ((R ∗ A) ∗ B) ∗ C) ⊢ G := by
  refine regroup m ρ ?_ h
  iintro ⟨⟨⟨HR, HA⟩, HB⟩, HC⟩
  isplitl [HR HB HC]
  · isplitl [HR HC]
    · isplitl [HR]; · iexact HR
      iexact HC
    iexact HB
  iexact HA

/-- The front is traded. -/
theorem trade {R S S' G : sProp 𝕄} (hp : S ⊢ S') (h : iprop(Ctx m ρ ∗ R ∗ S') ⊢ G) : iprop(Ctx m ρ ∗ R ∗ S) ⊢ G := by
  refine regroup m ρ ?_ h
  iintro ⟨HR, HA⟩
  isplitl [HR]; · iexact HR
  iapply hp
  iexact HA

/-! ## The column sums -/

/-- The buffer of column sums, at contents not known. -/
def OwnAny (c : Dev nD) : sProp 𝕄 := iprop(∃ f, ((c : Thread nD τ).loc cc0_scratch0) ↦{fullShare} f)

/-- A load from the buffer of column sums whose value is not used. -/
theorem load_own {R : sProp 𝕄} {Q : α → sProp 𝕄} {r : LoadRect S1x512} {hl : ownM.view.LoadsAt r}
    {K : (r.shape.Idx → Elt F .f32) → Prog (TpuEff nD τ sig (Elt F) Λ₀ .tc) α}
    (h : ∀ v, iprop(Ctx m ρ ∗ R ∗ OwnAny c) ⊢ WP c (K v) Q) :
    iprop(Ctx m ρ ∗ R ∗ OwnAny c) ⊢ WP c (Prog.lift (.load ownM r hl) >>= K) Q := by
  show _ ⊢ WP c (.op (.load ownM r hl) fun v => K v) Q
  simp only [WP_eq] at h ⊢
  unfold OwnAny at h ⊢
  iintro ⟨HC, HR, ⟨%f, HO⟩⟩
  iapply (wp_load 𝒱₀ (c : Thread nD τ) none Set.univ (m := ownM) (Finset.subset_univ _)) $$ HO
  iintro HO
  iapply (h (ownM.view.readAt (Elt F) r f))
  isplitl [HC]; · iexact HC
  isplitl [HR]; · iexact HR
  iexists f
  iexact HO

/-- The store of the column sums. -/
theorem store_own {R : sProp 𝕄} {Q : α → sProp 𝕄} {off : Fin 2 → ℕ} {inb : ∀ a, off a + S1x512.size a ≤ S1x512.size a}
    {w : FVec F S1x512 .f32} {hx : (ownM.access (Rect.unit (s := S1x512) off S1x512.size inb)).Stores Finset.univ}
    {hm : (Finset.univ : Finset (Rect.unit (s := S1x512) off S1x512.size inb).shape.Idx) = Finset.univ ∨ ∀ a, (Rect.unit (s := S1x512) off S1x512.size inb).stride a = 1}
    {K : PUnit → Prog (TpuEff nD τ sig (Elt F) Λ₀ .tc) α}
    (hoff : off = fun _ => 0) (hw : w = tot m ρ c)
    (h : iprop(Ctx m ρ ∗ R ∗ ownPts m ρ (keep 0) c) ⊢ WP c (K ⟨⟩) Q) :
    iprop(Ctx m ρ ∗ R ∗ OwnAny c) ⊢ WP c (Prog.lift (.store ownM (Rect.unit (s := S1x512) off S1x512.size inb) w Finset.univ hx hm) >>= K) Q := by
  subst hw
  subst hoff
  show _ ⊢ WP c (.op (.store ownM (Rect.unit (s := S1x512) _ S1x512.size inb) _ Finset.univ hx hm) fun v => K v) Q
  rw [WP_eq] at h ⊢
  unfold OwnAny
  iintro ⟨HC, HR, ⟨%f, HO⟩⟩
  iapply (wp_store 𝒱₀ (c : Thread nD τ) none Set.univ (m := ownM) (r := Rect.unit (s := S1x512) _ S1x512.size inb) (Mk := Finset.univ) (Finset.subset_univ _)) $$ HO
  iintro HO
  iapply h
  isplitl [HC]; · iexact HC
  isplitl [HR]; · iexact HR
  unfold ownPts
  rw [View.set_whole]
  have e : (ownM.access (Rect.unit (s := S1x512) (fun _ => 0) S1x512.size inb)).write (Elt F) f (tot m ρ c) Finset.univ = tot m ρ c :=
    Memref.write_access_unit_zero_univ (Elt F) cc0_scratch0 rfl inb f (tot m ρ c)
  rw [e]
  iexact HO

/-! ## From phase to phase -/

/-- The tokens of the copies to send. -/
def SendTok (c : Dev nD) : sProp 𝕄 :=
  bigSep (Finset.Ico 0 (31 - c.val)) fun j => iprop(dutyTok ER (rcvC (dv (j + (c.val + 1))) c.val) 0 0 ∗ dutyTok ER (sndC c j) 0 0)
/-- The credits and positions of the copies to receive. -/
def RcvIn (c : Dev nD) : sProp 𝕄 :=
  bigSep (Finset.Ico 0 c.val) fun j => iprop(cred (tallyAt (rcvC c j) () N) ∗ atPos ER (rcvC c j) 0 ∅ 0)
/-- The positions of the copies to send. -/
def SndPos (c : Dev nD) : sProp 𝕄 := bigSep (Finset.Ico 0 (31 - c.val)) fun j => atPos ER (sndC c j) 0 ∅ 0
/-- What is left once all copies are sent: the credits for their departures; -/
def SndCred (c : Dev nD) : sProp 𝕄 := bigSep (Finset.range (31 - c.val)) fun j => cred (tallyAt (sndC c j) () N)
/-- the received sums, their cells done; -/
def RcvOut (c : Dev nD) : sProp 𝕄 := bigSep (Finset.range c.val) fun j => iprop(doneAt m ρ (rcvC c j) ∗ rcvPay m ρ c j)
/-- the lent pieces back, their cells done. -/
def SndOut (c : Dev nD) : sProp 𝕄 := bigSep (Finset.range (31 - c.val)) fun j => iprop(doneAt m ρ (sndC c j) ∗ sndPay m ρ c j)

theorem sig_bar (c : Dev nD) :
    iprop(SigSt c 31 ∗ atPos ER (barC c) 0 ∅ 0 ∗ cred (tallyAt (barC c) () (31 - c.val))) ⊢ BarSt m ρ c 0 := by
  have hlt := dev_lt c
  unfold SigSt
  rw [oSig_done c (by omega), add_zero]
  iintro ⟨⟨HO, -⟩, HA⟩
  iapply (bar_start m ρ c)
  isplitl [HO]; · iexact HO
  iexact HA

theorem bigSep_shift (Φ : ℕ → sProp 𝕄) (n a : ℕ) :
    bigSep (Finset.Ico a (a + n)) Φ = bigSep (Finset.Ico 0 n) fun j => Φ (j + a) := by
  induction n with
  | zero => rw [Nat.add_zero, Finset.Ico_self, Finset.Ico_self]; rfl
  | succ n ih =>
    rw [← Nat.add_assoc, bigSep_Ico_succ_top (by omega), bigSep_Ico_succ_top (by omega), ih, Nat.add_comm n a]

theorem bar_send (c : Dev nD) :
    iprop(BarSt m ρ c 31 ∗ SendTok c ∗ ownPts m ρ (keep 0) c) ⊢ iprop(doneAt m ρ (barC c) ∗ SendSt m ρ c 0) := by
  have hlt := dev_lt c
  unfold BarSt SendTok SendSt
  rw [if_neg (by omega)]
  have e : bigSep (Finset.Ico (c.val + 1) 32) (fun d => barPay (F := F) c d)
      = bigSep (Finset.Ico 0 (31 - c.val)) fun j => barPay (F := F) c (j + (c.val + 1)) := by
    rw [← bigSep_shift, show c.val + 1 + (31 - c.val) = 32 by omega]
  rw [e]
  have e2 : (bigSep (Finset.Ico 0 (31 - c.val)) fun j => iprop(dutyTok ER (rcvC (dv (j + (c.val + 1))) c.val) 0 0 ∗ dutyTok ER (sndC c j) 0 0
        ∗ barPay (F := F) c (j + (c.val + 1))))
      = iprop((bigSep (Finset.Ico 0 (31 - c.val)) fun j => iprop(dutyTok ER (rcvC (dv (j + (c.val + 1))) c.val) 0 0 ∗ dutyTok ER (sndC c j) 0 0))
        ∗ bigSep (Finset.Ico 0 (31 - c.val)) fun j => barPay (F := F) c (j + (c.val + 1))) := by
    rw [← bigSep_sep']
    exact bigSep_congr fun j _ => (Std.Associative.assoc (op := Idealize.SL.BI.sep) _ _ _).symm
  rw [e2, Nat.zero_min]
  iintro ⟨⟨HO, Hd, HP⟩, HT, Hown⟩
  isplitl [Hd]; · iexact Hd
  isplitl [HO]; · iexact HO
  isplitl [HT HP]
  · isplitl [HT]; · iexact HT
    iexact HP
  isplitl [Hown]; · iexact Hown
  rw [Finset.range_zero, bigSep_empty]
  iempintro

theorem send_rcv (c : Dev nD) :
    iprop(SendSt m ρ c 31 ∗ RcvIn c) ⊢ iprop((ownPts m ρ (keep (31 - c.val)) c ∗ SndCred c) ∗ RcvSt m ρ c 0) := by
  have hlt := dev_lt c
  unfold SendSt RcvIn RcvSt SndCred WaitSt
  rw [oSend_done c (by omega), Nat.min_eq_right (by omega), Nat.zero_min]
  iintro ⟨⟨HO, -, Hown, Hcr⟩, HI⟩
  isplitl [Hown Hcr]
  · isplitl [Hown]; · iexact Hown
    iexact Hcr
  isplitl [HO]; · iexact HO
  isplitl [HI]; · iexact HI
  rw [Finset.range_zero, bigSep_empty]
  iempintro

theorem rcv_snd (c : Dev nD) :
    iprop(RcvSt m ρ c 31 ∗ SndCred c ∗ SndPos c) ⊢ iprop(RcvOut m ρ c ∗ SndSt m ρ c 0) := by
  have hlt := dev_lt c
  unfold RcvSt SndSt RcvOut SndCred SndPos WaitSt
  rw [Nat.min_eq_right (by omega), Nat.zero_min, ← Finset.range_eq_Ico, ← bigSep_sep']
  iintro ⟨⟨HO, -, HR⟩, HC⟩
  isplitl [HR]; · iexact HR
  isplitl [HO]; · iexact HO
  isplitl [HC]; · iexact HC
  rw [Finset.range_zero, bigSep_empty]
  iempintro

theorem snd_end (c : Dev nD) : SndSt m ρ c 31 ⊢ iprop((∃ W, owes (c : Thread nD τ) 0 W) ∗ SndOut m ρ c) := by
  have hlt := dev_lt c
  unfold SndSt SndOut WaitSt
  rw [Nat.min_eq_right (by omega)]
  iintro ⟨HO, -, HS⟩
  isplitl [HO]; · iexact HO
  iexact HS

end Cert.Scan

end
-- ==== Proof.Gather.lean ====
module

public import proofs.«01_k».proof.Proof.Phases

/-! The last step on the values: the received column sums of the earlier devices are summed and added to every row. -/

@[expose] public section

noncomputable section

namespace Cert.Scan

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)
variable {α : Type} {c : Dev nD}

/-- The mask of the rows summed: the rows of the earlier devices. -/
theorem mask_row : ∀ c r : Fin 32, IntOp.cmpi .slt (BitVec.ofNat 32 r.val) (word c) = if r.val < c.val then 1#1 else 0#1 := by
  decide +kernel

theorem mask_apply (c : Dev nD) (y : S32x512.Idx) : k0_pay25 (word c) y = if (y 0).val < c.val then 1#1 else 0#1 := by
  refine Eq.trans ?_ (mask_row c (y 0))
  show IntOp.cmpi .slt (BitVec.ofNat 32 (0 * 32 + (y 0).val)) (word c) = _
  rw [Nat.zero_mul, Nat.zero_add]

/-- Row `r`, column `l` of the received sums, as the flattened array names it. -/
def commIx (y : S32x512.Idx) : S32x1x512.Idx
  | 0 => ⟨(y 0).val, (y 0).isLt⟩
  | 1 => ⟨0, Nat.one_pos⟩
  | 2 => ⟨(y 1).val, (y 1).isLt⟩

theorem cast_comm {β : Type} (g : S32x1x512.Idx → β) (y : S32x512.Idx) :
    shapeCast S32x512 g shapeCasts_S32x1x512_S32x512 y = g (commIx y) := by
  unfold shapeCast
  congr 1
  refine Shape.reshapeEquiv_eq_of_rowMajor _ ?_
  refine (Shape.rowMajor_val_three _).trans ((Shape.rowMajor_val_two _).trans ?_).symm
  show (y 0).val * 512 + (y 1).val = ((y 0).val * 1 + 0) * 512 + (y 1).val
  omega

/-- Only the rows of the earlier devices are read. -/
theorem pay26_congr {g g' : Vec F S32x1x512 .f32} (c : Dev nD) (h : ∀ y : S32x1x512.Idx, (y 0).val < c.val → g y = g' y) (o : Vec F S1024x512 .f32) :
    k0_pay26 (k0_pay25 (word c)) g o = k0_pay26 (k0_pay25 (word c)) g' o := by
  unfold k0_pay26
  dsimp only
  have e : select (k0_pay25 (word c)) (shapeCast S32x512 g shapeCasts_S32x1x512_S32x512) (broadcast S32x512 (Scalar.ofBits .f32 0x00000000#32 : F .f32))
      = select (k0_pay25 (word c)) (shapeCast S32x512 g' shapeCasts_S32x1x512_S32x512) (broadcast S32x512 (Scalar.ofBits .f32 0x00000000#32 : F .f32)) := by
    funext y
    unfold select Scalar.select
    rw [cast_comm, cast_comm, mask_apply]
    by_cases hy : (y 0).val < c.val
    · rw [if_pos hy, h (commIx y) hy]
    · rw [if_neg hy, if_neg (by decide), if_neg (by decide)]
  rw [e]

/-- What a device's output buffer holds in the end. -/
def outAt (c : Dev nD) : Vec F S1024x512 .f32 := k0_pay26 (k0_pay25 (word c)) (commAll m ρ) (scanOf (xstg m ρ c))

/-- The landing buffer, with the earlier devices' column sums in their rows. -/
def CommSt (c : Dev nD) : sProp 𝕄 :=
  iprop(∃ g : Vec F S32x1x512 .f32, ⌜∀ y : S32x1x512.Idx, (y 0).val < c.val → g y = commAll m ρ y⌝
    ∗ (((c : Thread nD τ).loc cc0_scratch1) ↦{fullShare} g))
/-- The staged block, and the finished output. -/
def OutSt (c : Dev nD) : sProp 𝕄 :=
  iprop((((c : Thread nD τ).loc cc0_stg0_0) ↦{fullShare} xstg m ρ c) ∗ (((c : Thread nD τ).loc cc0_stg1_0) ↦{fullShare} outAt m ρ c))

/-- The load of the landing buffer. -/
theorem load_comm {R : sProp 𝕄} {Q : α → sProp 𝕄} {off : Fin 3 → ℕ} {inb : ∀ a, off a + S32x1x512.size a ≤ S32x1x512.size a}
    {hl : commM.view.LoadsAt (Rect.unit (s := S32x1x512) off S32x1x512.size inb).toLoadRect}
    {K : Vec F S32x1x512 .f32 → Prog (TpuEff nD τ sig (Elt F) Λ₀ .tc) α}
    (hoff : off = fun _ => 0)
    (h : ∀ g, (∀ y : S32x1x512.Idx, (y 0).val < c.val → g y = commAll m ρ y) → iprop(Ctx m ρ ∗ R ∗ CommSt m ρ c) ⊢ WP c (K g) Q) :
    iprop(Ctx m ρ ∗ R ∗ CommSt m ρ c) ⊢ WP c (Prog.lift (.load commM (Rect.unit (s := S32x1x512) off S32x1x512.size inb).toLoadRect hl) >>= K) Q := by
  show _ ⊢ WP c (.op (.load commM (Rect.unit (s := S32x1x512) off S32x1x512.size inb).toLoadRect hl) fun v => K v) Q
  simp only [WP_eq] at h ⊢
  unfold CommSt at h ⊢
  iintro ⟨HC, HR, ⟨%g, %hg, HO⟩⟩
  iapply (wp_load 𝒱₀ (c : Thread nD τ) none Set.univ (m := commM) (Finset.subset_univ _)) $$ HO
  iintro HO
  have e : commM.view.readAt (Elt F) (Rect.unit (s := S32x1x512) off S32x1x512.size inb).toLoadRect g = g :=
    Memref.readAt_unit_zero (Elt F) cc0_scratch1 hoff inb g
  rw [e]
  iapply (h g hg)
  isplitl [HC]; · iexact HC
  isplitl [HR]; · iexact HR
  iexists g
  isplitr; · (ipureintro; exact hg)
  iexact HO

/-- The load of the block's own cumulative sums. -/
theorem load_scan {R : sProp 𝕄} {Q : α → sProp 𝕄} {off : Fin 2 → ℕ} {inb : ∀ a, off a + S1024x512.size a ≤ S1024x512.size a}
    {hl : oM.view.LoadsAt (Rect.unit (s := S1024x512) off S1024x512.size inb).toLoadRect}
    {K : Vec F S1024x512 .f32 → Prog (TpuEff nD τ sig (Elt F) Λ₀ .tc) α}
    (hoff : off = fun _ => 0)
    (h : iprop(Ctx m ρ ∗ R ∗ VecSt m ρ c 8) ⊢ WP c (K (scanOf (xstg m ρ c))) Q) :
    iprop(Ctx m ρ ∗ R ∗ VecSt m ρ c 8) ⊢ WP c (Prog.lift (.load oM (Rect.unit (s := S1024x512) off S1024x512.size inb).toLoadRect hl) >>= K) Q := by
  show _ ⊢ WP c (.op (.load oM (Rect.unit (s := S1024x512) off S1024x512.size inb).toLoadRect hl) fun v => K v) Q
  simp only [WP_eq] at h ⊢
  unfold VecSt at h ⊢
  iintro ⟨HC, HR, Hx, ⟨%f, %hf, HO⟩⟩
  iapply (wp_load 𝒱₀ (c : Thread nD τ) none Set.univ (m := oM) (Finset.subset_univ _)) $$ HO
  iintro HO
  have e : oM.view.readAt (Elt F) (Rect.unit (s := S1024x512) off S1024x512.size inb).toLoadRect f = scanOf (xstg m ρ c) :=
    (Memref.readAt_unit_zero (Elt F) cc0_stg1_0 hoff inb f).trans (upTo_all hf)
  rw [e]
  iapply h
  isplitl [HC]; · iexact HC
  isplitl [HR]; · iexact HR
  isplitl [Hx]; · iexact Hx
  iexists f
  isplitr; · (ipureintro; exact hf)
  iexact HO

/-- The store of the finished output. -/
theorem store_out {R : sProp 𝕄} {Q : α → sProp 𝕄} {off : Fin 2 → ℕ} {inb : ∀ a, off a + S1024x512.size a ≤ S1024x512.size a}
    {w : FVec F S1024x512 .f32} {hx : (oM.access (Rect.unit (s := S1024x512) off S1024x512.size inb)).Stores Finset.univ}
    {hm : (Finset.univ : Finset (Rect.unit (s := S1024x512) off S1024x512.size inb).shape.Idx) = Finset.univ ∨ ∀ a, (Rect.unit (s := S1024x512) off S1024x512.size inb).stride a = 1}
    {K : PUnit → Prog (TpuEff nD τ sig (Elt F) Λ₀ .tc) α}
    (hoff : off = fun _ => 0) (hw : w = outAt m ρ c)
    (h : iprop(Ctx m ρ ∗ R ∗ OutSt m ρ c) ⊢ WP c (K ⟨⟩) Q) :
    iprop(Ctx m ρ ∗ R ∗ VecSt m ρ c 8) ⊢ WP c (Prog.lift (.store oM (Rect.unit (s := S1024x512) off S1024x512.size inb) w Finset.univ hx hm) >>= K) Q := by
  subst hw
  show _ ⊢ WP c (.op (.store oM (Rect.unit (s := S1024x512) off S1024x512.size inb) _ Finset.univ hx hm) fun v => K v) Q
  rw [WP_eq] at h ⊢
  unfold VecSt
  iintro ⟨HC, HR, Hx, ⟨%f, %hf, HO⟩⟩
  iapply (wp_store 𝒱₀ (c : Thread nD τ) none Set.univ (m := oM) (r := Rect.unit (s := S1024x512) off S1024x512.size inb) (Mk := Finset.univ) (Finset.subset_univ _)) $$ HO
  have e : (oM.access (Rect.unit (s := S1024x512) off S1024x512.size inb)).write (Elt F) f (outAt m ρ c) Finset.univ = outAt m ρ c :=
    Memref.write_access_unit_zero_univ (Elt F) cc0_stg1_0 hoff inb f (outAt m ρ c)
  rw [e]
  iintro HO
  iapply h
  isplitl [HC]; · iexact HC
  isplitl [HR]; · iexact HR
  unfold OutSt
  isplitl [Hx]; · iexact Hx
  iexact HO

end Cert.Scan

end
-- ==== Proof.Value.lean ====
module

public import proofs.«01_k».proof.Proof.Sums
public import proofs.«01_k».proof.Proof.Gather
public import Idealize.ShloMosaic.Lib.MatmulPlain
public import Idealize.ShloMosaic.Lib.ValueLayout
public import Idealize.ShloMosaic.Lib.ValueLayoutCasts

/-! The kernel's values, over the extended reals, as sums of rows: the product with the lower-triangular matrix sums along
    a chunk, the running row sums the earlier chunks, and the masked sum adds the totals of the earlier devices. -/

@[expose] public section

noncomputable section

namespace Cert.Scan

open Cert.KernelIdeal Cert.KernelIdeal.Gen
open Idealize.ShloMosaic Idealize.ShloMosaic.ValueIdx
open scoped BigOperators

/-- The matrix's entries as integers: one on and below the diagonal, zero above it. -/
theorem tri_word : ∀ r k : Fin 128,
    (IntOp.cmpi .sge (BitVec.ofNat 32 (0 * 128 + r.val)) (BitVec.ofNat 32 (0 * 128 + k.val))).setWidth 32 = if k.val ≤ r.val then 1#32 else 0#32 := by
  decide +kernel

/-- The matrix's entries: one on and below the diagonal, zero above it. -/
theorem tri_apply (r k : Fin 128) : k0_pay2 (F := Ideal) (ix2 r k) = if k.val ≤ r.val then (1 : EReal) else 0 := by
  show ((((IntOp.cmpi .sge (BitVec.ofNat 32 (0 * 128 + r.val)) (BitVec.ofNat 32 (0 * 128 + k.val))).setWidth 32).toInt : ℝ) : EReal) = _
  rw [tri_word]
  split <;> simp

/-- A cast to the same shape changes nothing. -/
theorem cast_self {α : Type} {s : Shape} (v : s.Idx → α) (h : s.ShapeCasts s) : shapeCast s v h = v :=
  funext fun i => congrArg v (Shape.reshapeEquiv_self h i)

/-- The product with the matrix is the sum of the chunk's rows up to each row. -/
theorem segScan_apply (s : Vec Ideal S128x512 .f32) (r : Fin 128) (l : Fin 512) :
    segScan (F := Ideal) s (ix2 r l) = ∑ k ∈ Finset.range (r.val + 1), col (n := 128) (w := 512) s l k := by
  unfold segScan k0_pay10
  rw [cast_self]
  refine (Ideal.matmul_plain_apply (M := 128) (K := 128) (N := 512) none (k0_pay2 (F := Ideal)) (truncf .bf16 s bitsLt_bf16_f32)
    (constant S128x512 .f32 0x00000000#32) r l).trans ?_
  rw [constant_apply, Ideal.ofBits_zero_f32, zero_add, ← sum_upto r.isLt, sum_fin]
  refine Finset.sum_congr rfl fun k hk => ?_
  have hk' : k < 128 := Finset.mem_range.mp hk
  rw [dif_pos hk', tri_apply, truncf_apply, col_of_lt _ _ hk']
  by_cases h : k ≤ r.val
  · rw [if_pos h, if_pos h, one_mul]
  · rw [if_neg h, if_neg h, zero_mul]

/-- Column `l` of chunk `k` is the stretch of the block's column `l` from row `128 k`. -/
theorem col_seg (x : Vec Ideal S1024x512 .f32) (l : Fin 512) {k j : ℕ} (hk : k < 8) (hj : j < 128) :
    col (n := 128) (w := 512) (seg (F := Ideal) x k) l j = col (n := 1024) (w := 512) x l (128 * k + j) := by
  have h : 128 * k + j < 1024 := by omega
  rw [col_of_lt _ _ hj, col_of_lt _ _ h]
  unfold seg
  congr 1
  funext a
  refine Fin.ext ?_
  match a with
  | ⟨0, _⟩ => show (128 * k + j) % 1024 = 128 * k + j; omega
  | ⟨1, _⟩ => rfl

/-- The sum along chunk `k` in terms of the block's column. -/
theorem segScan_seg (x : Vec Ideal S1024x512 .f32) (l : Fin 512) {k : ℕ} (hk : k < 8) (r : Fin 128) :
    segScan (F := Ideal) (seg (F := Ideal) x k) (ix2 r l) = ∑ j ∈ Finset.range (r.val + 1), col (n := 1024) (w := 512) x l (128 * k + j) := by
  rw [segScan_apply]
  refine Finset.sum_congr rfl fun j hj => col_seg x l hk ?_
  have := Finset.mem_range.mp hj
  have := r.isLt
  omega

/-- The running row before chunk `k` is the sum of the rows before it. -/
theorem run_apply (x : Vec Ideal S1024x512 .f32) (l : Fin 512) (k : ℕ) (hk : k ≤ 8) :
    run (F := Ideal) x k (ix2 (0 : Fin 1) l) = ∑ j ∈ Finset.range (128 * k), col (n := 1024) (w := 512) x l j := by
  induction k with
  | zero =>
    show Ideal.ofBits .f32 0x00000000#32 = _
    rw [Ideal.ofBits_zero_f32]
    rfl
  | succ k ih =>
    show run (F := Ideal) x k (ix2 (0 : Fin 1) l)
      + extractStridedSlice S1x512 ![127, 0] (segScan (F := Ideal) (seg (F := Ideal) x k)) slices_S128x512_o127_0_S1x512 (ix2 (0 : Fin 1) l) = _
    rw [ih (by omega), slice2_axis0_apply 127 _ _ (0 : Fin 1) l (127 : Fin 128) rfl, segScan_seg x l (by omega), Nat.mul_succ]
    exact (Finset.sum_range_add _ _ _).symm

/-- The block's own cumulative sums are the sums of its rows up to each row. -/
theorem scanOf_apply (x : Vec Ideal S1024x512 .f32) (r : Fin 1024) (l : Fin 512) :
    scanOf (F := Ideal) x (ix2 r l) = ∑ j ∈ Finset.range (r.val + 1), col (n := 1024) (w := 512) x l j := by
  have hr := r.isLt
  have hk : r.val / 128 < 8 := by omega
  have hq : r.val % 128 < 128 := Nat.mod_lt _ (by decide)
  have e : inChunk (ix2 r l : S1024x512.Idx) = ix2 (⟨r.val % 128, hq⟩ : Fin 128) l := by
    funext a
    match a with
    | ⟨0, _⟩ => rfl
    | ⟨1, _⟩ => rfl
  show chunkOut (F := Ideal) x (r.val / 128) (inChunk (ix2 r l : S1024x512.Idx)) = _
  rw [e]
  show segScan (F := Ideal) (seg (F := Ideal) x (r.val / 128)) (ix2 ⟨r.val % 128, hq⟩ l)
    + broadcastTo S128x512 (run (F := Ideal) x (r.val / 128)) broadcasts_S1x512_S128x512 (ix2 ⟨r.val % 128, hq⟩ l) = _
  rw [broadcastTo_1b_ab_apply, run_apply x l _ (by omega), segScan_seg x l hk, add_comm, ← Finset.sum_range_add]
  congr 2
  show 128 * (r.val / 128) + (r.val % 128 + 1) = r.val + 1
  omega

/-- Summing over the rows of an array of two axes. -/
theorem sum_rows {n w : ℕ} (x : FVec Ideal ⟨2, ![n, w]⟩ .f32) (h : (⟨2, ![n, w]⟩ : Shape).Reduces [0] ⟨1, ![w]⟩) (hφ : FKind.Formats .f32)
    (hacc : (0x00000000#32 : BitVec 32) = FKind.add.neutral .f32 hφ) (l : Fin w) :
    multiReduction .add [0] ⟨1, ![w]⟩ x 0x00000000#32 h hφ hacc (ix1 l) = ∑ k ∈ Finset.range n, col x l k := by
  rw [Ideal.multiReduction_add_single, ← sum_col]
  refine Finset.sum_congr rfl fun k _ => congrArg x ?_
  funext a
  match a with
  | ⟨0, _⟩ => rfl
  | ⟨1, _⟩ => rfl

/-- A device's column sums. -/
theorem pay1_apply (x : Vec Ideal S1024x512 .f32) (l : Fin 512) :
    k0_pay1 (F := Ideal) x (ix2 (0 : Fin 1) l) = ∑ k ∈ Finset.range 1024, col (n := 1024) (w := 512) x l k := by
  unfold k0_pay1
  dsimp only
  rw [cast_self]
  exact (shapeCast_a_1a_apply _ _ _ _).trans (sum_rows (n := 1024) (w := 512) x _ _ _ l)

/-- The output: a block's own cumulative sums, plus the column sums of the earlier devices. -/
theorem pay26_apply (c : Dev nD) (g : Vec Ideal S32x1x512 .f32) (o : Vec Ideal S1024x512 .f32) (r : Fin 1024) (l : Fin 512) :
    k0_pay26 (F := Ideal) (k0_pay25 (word c)) g o (ix2 r l)
      = o (ix2 r l) + ∑ s ∈ Finset.range c.val, col (n := 32) (w := 512) (fun y => g (commIx y)) l s := by
  unfold k0_pay26
  dsimp only
  rw [cast_self, addf_apply]
  congr 1
  rw [broadcastTo_1b_ab_apply, shapeCast_a_1a_apply]
  refine (sum_rows (n := 32) (w := 512) _ _ _ _ l).trans ?_
  rw [← sum_before (Nat.le_of_lt c.isLt) (col (n := 32) (w := 512) (fun y => g (commIx y)) l)]
  refine Finset.sum_congr rfl fun s hs => ?_
  have hs' : s < 32 := Finset.mem_range.mp hs
  rw [col_of_lt _ _ hs', col_of_lt _ _ hs', select_apply, mask_apply, cast_comm]
  by_cases h : s < c.val
  · rw [if_pos h, if_pos h, select_one]
  · rw [if_neg h, if_neg h, select_zero]
    exact Ideal.ofBits_zero_f32

end Cert.Scan

end
-- ==== Proof.Parts.lean ====
module

public import proofs.«01_k».proof.Proof.Gather

/-! The kernel's body, part by part. A part is a run of guarded statements; each lemma below carries the state of a phase
    through one statement, its guard and operands given as functions of the device. -/

@[expose] public section

noncomputable section

namespace Cert.Scan

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)
variable {α : Type} {c : Dev nD}

/-! ## The steps, over functions of the device -/

/-- Whether a device has a neighbour `k` places later, as the kernel asks; -/
abbrev hasLater (k : BitVec 32) (c : Dev nD) : BitVec 1 := Scalar.cmpi .ne (Scalar.extui (Scalar.cmpi .slt (Scalar.addi (word c) k) 32#32)) 0#32
/-- whether it comes after device `k`. -/
abbrev isAfter (k : BitVec 32) (c : Dev nD) : BitVec 1 := Scalar.cmpi .ne (Scalar.extui (Scalar.cmpi .sgt (word c) k)) 0#32

theorem sig_at {R : sProp 𝕄} {Q : α → sProp 𝕄} (k : ℕ) {b : Dev nD → BitVec 1} {dev : Dev nD → ℕ} {lt : ∀ d, b d = 1#1 → dev d < nD}
    {J : Prog (TpuEff nD τ sig (Elt F) Λ₀ .tc) α}
    (hb : ∀ d, b d = 1#1 ↔ k < d.val) (hd : ∀ d, b d = 1#1 → dev d = d.val - k - 1)
    (h : iprop(Ctx m ρ ∗ R ∗ SigSt c (k + 1)) ⊢ WP c J Q) :
    iprop(Ctx m ρ ∗ R ∗ SigSt c k) ⊢ WP c
      (if h : b c = 1#1 then (do semSignalWord (⟨dev c, lt c h⟩ : Dev nD) barS 1#32; J) else J) Q :=
  sig_step m ρ k (hb c) (hd c) h

theorem bar_at {R : sProp 𝕄} {Q : α → sProp 𝕄} (k : ℕ) {w : BitVec 32} {J : Prog (TpuEff nD τ sig (Elt F) Λ₀ .tc) α}
    (hb : ∀ d, hasLater w d = 1#1 ↔ k < 31 - d.val)
    (h : iprop(Ctx m ρ ∗ R ∗ BarSt m ρ c (k + 1)) ⊢ WP c J Q) :
    iprop(Ctx m ρ ∗ R ∗ BarSt m ρ c k) ⊢ WP c
      (if h : hasLater w c = 1#1 then (do semWaitWord barS 1#32; J) else J) Q :=
  bar_step m ρ k (hb c) h

/-- A row of the buffer of received sums, cut out at an offset. -/
abbrev rowAt (off : Fin 3 → ℕ) (inb : ∀ a, off a + S1x1x512.size a ≤ S32x1x512.size a) : Memref sig .tc .vmem S1x512 .f32 :=
  (commM.slice (Rect.unit (s := S32x1x512) off S1x1x512.size inb) (fun _ => rfl)).squeeze S1x512 squeezes_S1x1x512_S1x512
/-- A send semaphore, at an offset; -/
abbrev sndAt (off : Fin 1 → ℕ) (inb : ∀ a, off a + S1.size a ≤ S31.size a) : DmaSem sig :=
  ((cc0_scratch2.slice (Rect.unit (s := S31) off S1.size inb)).squeeze S_ squeezes_S1_S_).sem
/-- a receive semaphore, at an offset. -/
abbrev rcvAt (off : Fin 1 → ℕ) (inb : ∀ a, off a + S1.size a ≤ S32.size a) : DmaSem sig :=
  ((cc0_scratch3.slice (Rect.unit (s := S32) off S1.size inb)).squeeze S_ squeezes_S1_S_).sem

theorem rowAt_eq {off : Fin 3 → ℕ} (s : Dev nD) (h : off = ![s.val, 0, 0]) (inb : ∀ a, off a + S1x1x512.size a ≤ S32x1x512.size a) :
    rowAt off inb = slotM s := by subst h; rfl

theorem rcvAt_dev : ∀ s : Fin 32, ∀ inb : (∀ a, (![s.val] : Fin 1 → ℕ) a + S1.size a ≤ S32.size a), rcvAt ![s.val] inb = rcvSem s.val := by
  decide
theorem rcvAt_eq {off : Fin 1 → ℕ} (s : Dev nD) (h : off = ![s.val]) (inb : ∀ a, off a + S1.size a ≤ S32.size a) :
    rcvAt off inb = rcvSem s.val := by subst h; exact rcvAt_dev s inb

theorem send_at {R : sProp 𝕄} {Q : α → sProp 𝕄} (k : ℕ) {b : Dev nD → BitVec 1} {dev : Dev nD → ℕ} {lt : ∀ d, b d = 1#1 → dev d < nD}
    {off : Dev nD → Fin 3 → ℕ} {inb : ∀ d, b d = 1#1 → ∀ a, off d a + S1x1x512.size a ≤ S32x1x512.size a}
    {soff : Dev nD → Fin 1 → ℕ} {sinb : ∀ d, b d = 1#1 → ∀ a, soff d a + S1.size a ≤ S32.size a}
    {koff : Fin 1 → ℕ} {kinb : ∀ a, koff a + S1.size a ≤ S31.size a}
    {hsc : ∀ h, (rowAt (off c) (inb c h)).view.ref.isScScratch = false} {hsrc : b c = 1#1 → ownM.view.WordExact} {hdst : ∀ h, (rowAt (off c) (inb c h)).view.WordExact}
    {hsem : ∀ h, DmaTarget.Typed .vmem (.dma (rcvAt (soff c) (sinb c h)))
      (.remote (Dev.tc (⟨dev c, lt c h⟩ : Dev nD) : Thread nD τ) (rowAt (off c) (inb c h)) (.dma (sndAt koff kinb)) (hsc h))}
    {J : Prog (TpuEff nD τ sig (Elt F) Λ₀ .tc) α}
    (hb : ∀ d, b d = 1#1 ↔ k < 31 - d.val) (hdev : ∀ d, b d = 1#1 → dev d = k + (d.val + 1))
    (hoff : ∀ d, off d = ![d.val, 0, 0]) (hsoff : ∀ d, soff d = ![d.val]) (hk : sndAt koff kinb = sndSem k)
    (h : iprop(Ctx m ρ ∗ R ∗ SendSt m ρ c (k + 1)) ⊢ WP c J Q) :
    iprop(Ctx m ρ ∗ R ∗ SendSt m ρ c k) ⊢ WP c
      (if h : b c = 1#1 then (do
        Prog.lift (.enqueueDma ownM (.remote (Dev.tc (⟨dev c, lt c h⟩ : Dev nD) : Thread nD τ) (rowAt (off c) (inb c h)) (.dma (sndAt koff kinb)) (hsc h))
          (.dma (rcvAt (soff c) (sinb c h))) (hsrc h) (hdst h) (hsem h))
        J) else J) Q :=
  send_step m ρ k (hb c) (hdev c) (fun h => rowAt_eq c (hoff c) (inb c h)) (fun h => rcvAt_eq c (hsoff c) (sinb c h)) hk h

theorem rcv_at {R : sProp 𝕄} {Q : α → sProp 𝕄} (k : ℕ) {w : BitVec 32} {off : Fin 3 → ℕ} {inb : ∀ a, off a + S1x1x512.size a ≤ S32x1x512.size a}
    {koff : Fin 1 → ℕ} {kinb : ∀ a, koff a + S1.size a ≤ S32.size a}
    {hsrc : isAfter w c = 1#1 → ownM.view.WordExact} {hdst : isAfter w c = 1#1 → (rowAt off inb).view.WordExact}
    {J : Prog (TpuEff nD τ sig (Elt F) Λ₀ .tc) α}
    (hb : ∀ d, isAfter w d = 1#1 ↔ k < d.val) (hk : rcvAt koff kinb = rcvSem k)
    (h : iprop(Ctx m ρ ∗ R ∗ RcvSt m ρ c (k + 1)) ⊢ WP c J Q) :
    iprop(Ctx m ρ ∗ R ∗ RcvSt m ρ c k) ⊢ WP c
      (if h : isAfter w c = 1#1 then (do Prog.lift (.waitDma2 (rcvAt koff kinb) ownM (rowAt off inb) (hsrc h) (hdst h)); J) else J) Q :=
  have hlt := dev_lt c
  wait_step m ρ k (fun j hj => inv_rcv m ρ c (by omega)) (fun j hj => expect_rcv m ρ c hj) (fun j hj => rest_rcv m ρ c hj) (hb c) hk rfl h

theorem snd_at {R : sProp 𝕄} {Q : α → sProp 𝕄} (k : ℕ) {b : Dev nD → BitVec 1} {off : Dev nD → Fin 3 → ℕ} {inb : ∀ d, b d = 1#1 → ∀ a, off d a + S1x1x512.size a ≤ S32x1x512.size a}
    {koff : Fin 1 → ℕ} {kinb : ∀ a, koff a + S1.size a ≤ S31.size a}
    {hdst : b c = 1#1 → ownM.view.WordExact} {hsrc : ∀ h : b c = 1#1, (rowAt (off c) (inb c h)).view.WordExact}
    {J : Prog (TpuEff nD τ sig (Elt F) Λ₀ .tc) α}
    (hb : ∀ d, b d = 1#1 ↔ k < 31 - d.val) (hk : sndAt koff kinb = sndSem k)
    (h : iprop(Ctx m ρ ∗ R ∗ SndSt m ρ c (k + 1)) ⊢ WP c J Q) :
    iprop(Ctx m ρ ∗ R ∗ SndSt m ρ c k) ⊢ WP c
      (if h : b c = 1#1 then (do Prog.lift (.waitDma2 (sndAt koff kinb) (rowAt (off c) (inb c h)) ownM (hsrc h) (hdst h)); J) else J) Q :=
  have hlt := dev_lt c
  wait_step m ρ k (fun j hj => inv_snd m ρ c (by omega)) (fun j hj => expect_snd m ρ c hj) (fun j hj => rest_snd m ρ c hj) (hb c) hk rfl h

theorem ret_step {Q : α → sProp 𝕄} {P : sProp 𝕄} {a : α} (h : P ⊢ Q a) : P ⊢ WP c (pure a) Q := by
  rw [WP_eq, wp_pure]
  iintro H
  imodintro
  iapply h
  iexact H

theorem dev_step {Q : α → sProp 𝕄} {P : sProp 𝕄} {K : Dev nD → Prog (TpuEff nD τ sig (Elt F) Λ₀ .tc) α}
    (h : P ⊢ WP c (K c) Q) :
    P ⊢ WP c (Prog.lift .deviceId >>= K) Q := by
  rw [WP_eq] at h ⊢
  rw [wp_bind]
  show _ ⊢ wp frame (wpE (defs₀ (F := F)) 𝒱₀ (c : Thread nD τ) none) Set.univ (.op .deviceId fun d => .ret d) _
  rw [wp_deviceId, wp_ret]
  iintro H
  imodintro
  iapply h
  iexact H

section Parts
variable {hx : xM.IsWhole} {ho : oM.IsWhole} {hw : ownM.IsWhole} {hc : commM.IsWhole}

theorem part1_spec {R : sProp 𝕄} {Q : (Σ' (d0 : Dev nD) (v2 : BitVec 32) (v3 : Sems sig S_), BitVec 32) → sProp 𝕄}
    (h : ∀ w, iprop(Ctx m ρ ∗ R ∗ SigSt c 6) ⊢ Q ⟨c, word c, SemArray.scalar (sig.barrier 0 rfl), w⟩) :
    iprop(Ctx m ρ ∗ R ∗ SigSt c 0) ⊢ WP c
      (k0_part1 xM hx oM ho ownM hw commM hc cc0_scratch2 cc0_scratch3) Q := by
  rw [k0_part1_eq_skeleton]
  unfold k0_part1_skel
  refine dev_step ?_
  iterate 6
    refine sig_at m ρ _ ?_ ?_ ?_
    · decide +kernel
    · decide +kernel
  exact ret_step (h _)

theorem part2_spec {R : sProp 𝕄} {Q : BitVec 32 → sProp 𝕄} {v : BitVec 32}
    (h : ∀ w, iprop(Ctx m ρ ∗ R ∗ SigSt c 14) ⊢ Q w) :
    iprop(Ctx m ρ ∗ R ∗ SigSt c 6) ⊢ WP c
      (k0_part2 xM hx oM ho ownM hw commM hc cc0_scratch2 cc0_scratch3 c (word c) (SemArray.scalar (sig.barrier 0 rfl)) v) Q := by
  rw [k0_part2_eq_skeleton]
  unfold k0_part2_skel
  iterate 8
    refine sig_at m ρ _ ?_ ?_ ?_
    · decide +kernel
    · decide +kernel
  exact ret_step (h _)

theorem part3_spec {R : sProp 𝕄} {Q : BitVec 32 → sProp 𝕄} {v : BitVec 32}
    (h : ∀ w, iprop(Ctx m ρ ∗ R ∗ SigSt c 21) ⊢ Q w) :
    iprop(Ctx m ρ ∗ R ∗ SigSt c 14) ⊢ WP c
      (k0_part3 xM hx oM ho ownM hw commM hc cc0_scratch2 cc0_scratch3 c (word c) (SemArray.scalar (sig.barrier 0 rfl)) v) Q := by
  rw [k0_part3_eq_skeleton]
  unfold k0_part3_skel
  iterate 7
    refine sig_at m ρ _ ?_ ?_ ?_
    · decide +kernel
    · decide +kernel
  exact ret_step (h _)

theorem part4_spec {R : sProp 𝕄} {Q : BitVec 32 → sProp 𝕄} {v : BitVec 32}
    (h : ∀ w, iprop(Ctx m ρ ∗ R ∗ SigSt c 29) ⊢ Q w) :
    iprop(Ctx m ρ ∗ R ∗ SigSt c 21) ⊢ WP c
      (k0_part4 xM hx oM ho ownM hw commM hc cc0_scratch2 cc0_scratch3 c (word c) (SemArray.scalar (sig.barrier 0 rfl)) v) Q := by
  rw [k0_part4_eq_skeleton]
  unfold k0_part4_skel
  iterate 8
    refine sig_at m ρ _ ?_ ?_ ?_
    · decide +kernel
    · decide +kernel
  exact ret_step (h _)

/-- The last signals, the column sums and the first chunk; what is passed on belongs to the second chunk. -/
theorem part5_spec {R : sProp 𝕄} {Q : (Σ' (v139 : FVec F S128x128 .bf16) (v149 : FVec F S1x512 .f32) (v153 : FVec F S128x512 .f32), FVec F S128x512 .f32) → sProp 𝕄}
    {v : BitVec 32}
    (h : iprop(Ctx m ρ ∗ ((R ∗ SigSt c 31) ∗ ownPts m ρ (keep 0) c) ∗ VecSt m ρ c 1)
      ⊢ Q ⟨k0_pay2, run (xstg m ρ c) 1, segScan (seg (xstg m ρ c) 1), chunkOut (xstg m ρ c) 1⟩) :
    iprop(Ctx m ρ ∗ ((R ∗ VecSt m ρ c 0) ∗ OwnAny c) ∗ SigSt c 29) ⊢ WP c
      (k0_part5 xM hx oM ho ownM hw commM hc cc0_scratch2 cc0_scratch3 c (word c) (SemArray.scalar (sig.barrier 0 rfl)) v) Q := by
  rw [k0_part5_eq_skeleton]
  unfold k0_part5_skel
  iterate 2
    refine sig_at m ρ _ ?_ ?_ ?_
    · decide +kernel
    · decide +kernel
  refine swap2 m ρ ?_
  refine load_x m ρ ?_
  refine swap1 m ρ ?_
  refine load_own m ρ fun _ => ?_
  refine store_own m ρ (by decide) ?_ ?_
  · show k0_pay1 _ = k0_pay1 _
    exact congrArg k0_pay1 (Memref.readAt_unit_zero (Elt F) cc0_stg0_0 (by decide) _ (xstg m ρ c))
  refine swap1 m ρ ?_
  refine load_seg m ρ 0 (by decide) (by decide) ?_
  refine load_o m ρ fun _ => ?_
  refine store_o m ρ 0 (by decide) (out0 _) ?_
  refine load_seg m ρ 1 (by decide) (by decide) ?_
  exact ret_step h

/-- Chunks 1 to 4, and the sums of chunk 5. -/
theorem part6_spec {R : sProp 𝕄} {Q : (Σ' (v185 : FVec F S1x512 .f32) (v189 : FVec F S128x512 .f32), FVec F S128x512 .f32) → sProp 𝕄}
    (h : iprop(Ctx m ρ ∗ R ∗ VecSt m ρ c 5) ⊢ Q ⟨run (xstg m ρ c) 5, segScan (seg (xstg m ρ c) 5), chunkOut (xstg m ρ c) 5⟩) :
    iprop(Ctx m ρ ∗ R ∗ VecSt m ρ c 1) ⊢ WP c
      (k0_part6 xM hx oM ho ownM hw commM hc cc0_scratch2 cc0_scratch3 k0_pay2 (run (xstg m ρ c) 1) (segScan (seg (xstg m ρ c) 1)) (chunkOut (xstg m ρ c) 1)) Q := by
  rw [k0_part6_eq_skeleton]
  unfold k0_part6_skel
  refine load_o m ρ fun _ => ?_
  refine store_o m ρ 1 (by decide) rfl ?_
  refine load_seg m ρ 2 (by decide) (by decide) ?_
  refine load_o m ρ fun _ => ?_
  refine store_o m ρ 2 (by decide) (out2 _) ?_
  refine load_seg m ρ 3 (by decide) (by decide) ?_
  refine load_o m ρ fun _ => ?_
  refine store_o m ρ 3 (by decide) (out3 _) ?_
  refine load_seg m ρ 4 (by decide) (by decide) ?_
  refine load_o m ρ fun _ => ?_
  refine store_o m ρ 4 (by decide) (out4 _) ?_
  refine load_seg m ρ 5 (by decide) (by decide) ?_
  exact ret_step h

/-- Chunk 5, then the first waits on the barrier. -/
theorem part7_spec {R : sProp 𝕄} {Q : (Σ' (v194 : FVec F S1x512 .f32), BitVec 1) → sProp 𝕄}
    (h : iprop(Ctx m ρ ∗ (R ∗ VecSt m ρ c 6) ∗ BarSt m ρ c 6) ⊢ Q ⟨run (xstg m ρ c) 6, hasLater 7#32 c⟩) :
    iprop(Ctx m ρ ∗ (R ∗ BarSt m ρ c 0) ∗ VecSt m ρ c 5) ⊢ WP c
      (k0_part7 xM hx oM ho ownM hw commM hc cc0_scratch2 cc0_scratch3 (word c) (SemArray.scalar (sig.barrier 0 rfl)) (run (xstg m ρ c) 5) (segScan (seg (xstg m ρ c) 5)) (chunkOut (xstg m ρ c) 5)) Q := by
  rw [k0_part7_eq_skeleton]
  unfold k0_part7_skel
  refine load_o m ρ fun _ => ?_
  refine store_o m ρ 5 (by decide) rfl ?_
  refine swap1 m ρ ?_
  iterate 6
    refine bar_at m ρ _ ?_ ?_
    · decide +kernel
  exact ret_step h

theorem part8_spec {R : sProp 𝕄} {Q : (Σ' (v251 : BitVec 32), BitVec 32) → sProp 𝕄}
    (h : iprop(Ctx m ρ ∗ R ∗ BarSt m ρ c 14) ⊢ Q ⟨Scalar.addi (word c) 15#32, 32#32⟩) :
    iprop(Ctx m ρ ∗ R ∗ BarSt m ρ c 6) ⊢ WP c (k0_part8 xM hx oM ho ownM hw commM hc cc0_scratch2 cc0_scratch3 (word c) (SemArray.scalar (sig.barrier 0 rfl)) (hasLater 7#32 c)) Q := by
  rw [k0_part8_eq_skeleton]
  unfold k0_part8_skel
  iterate 8
    refine bar_at m ρ _ ?_ ?_
    · decide +kernel
  exact ret_step h

theorem part9_spec {R : sProp 𝕄} {Q : BitVec 1 → sProp 𝕄}
    (h : iprop(Ctx m ρ ∗ R ∗ BarSt m ρ c 21) ⊢ Q (hasLater 22#32 c)) :
    iprop(Ctx m ρ ∗ R ∗ BarSt m ρ c 14) ⊢ WP c (k0_part9 xM hx oM ho ownM hw commM hc cc0_scratch2 cc0_scratch3 (word c) (SemArray.scalar (sig.barrier 0 rfl)) (Scalar.addi (word c) 15#32) 32#32) Q := by
  rw [k0_part9_eq_skeleton]
  unfold k0_part9_skel
  iterate 7
    refine bar_at m ρ _ ?_ ?_
    · decide +kernel
  exact ret_step h

theorem part10_spec {R : sProp 𝕄} {Q : (Σ' (v311 : BitVec 32), BitVec 32) → sProp 𝕄}
    (h : iprop(Ctx m ρ ∗ R ∗ BarSt m ρ c 29) ⊢ Q ⟨Scalar.addi (word c) 30#32, 32#32⟩) :
    iprop(Ctx m ρ ∗ R ∗ BarSt m ρ c 21) ⊢ WP c (k0_part10 xM hx oM ho ownM hw commM hc cc0_scratch2 cc0_scratch3 (word c) (SemArray.scalar (sig.barrier 0 rfl)) (hasLater 22#32 c)) Q := by
  rw [k0_part10_eq_skeleton]
  unfold k0_part10_skel
  iterate 8
    refine bar_at m ρ _ ?_ ?_
    · decide +kernel
  exact ret_step h

/-- The last waits on the barrier, then the first copies. -/
theorem part11_spec {R : sProp 𝕄} {Q : PUnit → sProp 𝕄}
    (h : ∀ w, iprop(Ctx m ρ ∗ (R ∗ doneAt m ρ (barC c)) ∗ SendSt m ρ c 5) ⊢ Q w) :
    iprop(Ctx m ρ ∗ (R ∗ SendTok c ∗ ownPts m ρ (keep 0) c) ∗ BarSt m ρ c 29) ⊢ WP c
      (k0_part11 xM hx oM ho ownM hw commM hc cc0_scratch2 cc0_scratch3 c (word c) (SemArray.scalar (sig.barrier 0 rfl)) (Scalar.addi (word c) 30#32) 32#32) Q := by
  rw [k0_part11_eq_skeleton]
  unfold k0_part11_skel
  iterate 2
    refine bar_at m ρ _ ?_ ?_
    · decide +kernel
  refine regroup m ρ (R' := iprop(R ∗ doneAt m ρ (barC c))) (S' := SendSt m ρ c 0) ?_ ?_
  · iintro ⟨⟨HR, HT⟩, HB⟩
    ihave HD := (bar_send m ρ c) $$ [HB HT]
    · isplitl [HB]; · iexact HB
      iexact HT
    icases HD with ⟨HD, HS⟩
    isplitl [HR HD]
    · isplitl [HR]; · iexact HR
      iexact HD
    iexact HS
  iterate 5
    refine send_at m ρ _ ?_ ?_ ?_ ?_ ?_ ?_
    · decide +kernel
    · decide +kernel
    · decide +kernel
    · decide +kernel
    · decide +kernel
  exact ret_step (h _)

end Parts
end Cert.Scan

end
-- ==== Proof.PartsMid.lean ====
module

public import proofs.«01_k».proof.Proof.Parts

/-! The middle of the body: the copies sent, the last two chunks, the waits for the received rows. -/

@[expose] public section

noncomputable section

namespace Cert.Scan

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)
variable {α : Type} {c : Dev nD}

section Parts
variable {hx : xM.IsWhole} {ho : oM.IsWhole} {hw : ownM.IsWhole} {hc : commM.IsWhole}

theorem part12_spec {R : sProp 𝕄} {Q : (Σ' (v371 : BitVec 32), BitVec 32) → sProp 𝕄}
    (h : ∀ w, iprop(Ctx m ρ ∗ R ∗ SendSt m ρ c 13) ⊢ Q w) :
    iprop(Ctx m ρ ∗ R ∗ SendSt m ρ c 5) ⊢ WP c (k0_part12 xM hx oM ho ownM hw commM hc cc0_scratch2 cc0_scratch3 c (word c)) Q := by
  rw [k0_part12_eq_skeleton]
  unfold k0_part12_skel
  iterate 8
    refine send_at m ρ _ ?_ ?_ ?_ ?_ ?_ ?_
    · decide +kernel
    · decide +kernel
    · decide +kernel
    · decide +kernel
    · decide +kernel
  exact ret_step (h _)

theorem part13_spec {R : sProp 𝕄} {Q : (PUnit) → sProp 𝕄} {v w : BitVec 32}
    (h : ∀ w, iprop(Ctx m ρ ∗ R ∗ SendSt m ρ c 20) ⊢ Q w) :
    iprop(Ctx m ρ ∗ R ∗ SendSt m ρ c 13) ⊢ WP c (k0_part13 xM hx oM ho ownM hw commM hc cc0_scratch2 cc0_scratch3 c (word c) v w) Q := by
  rw [k0_part13_eq_skeleton]
  unfold k0_part13_skel
  iterate 7
    refine send_at m ρ _ ?_ ?_ ?_ ?_ ?_ ?_
    · decide +kernel
    · decide +kernel
    · decide +kernel
    · decide +kernel
    · decide +kernel
  exact ret_step (h _)

theorem part14_spec {R : sProp 𝕄} {Q : (Σ' (v431 : BitVec 32), BitVec 32) → sProp 𝕄}
    (h : ∀ w, iprop(Ctx m ρ ∗ R ∗ SendSt m ρ c 28) ⊢ Q w) :
    iprop(Ctx m ρ ∗ R ∗ SendSt m ρ c 20) ⊢ WP c (k0_part14 xM hx oM ho ownM hw commM hc cc0_scratch2 cc0_scratch3 c (word c)) Q := by
  rw [k0_part14_eq_skeleton]
  unfold k0_part14_skel
  iterate 8
    refine send_at m ρ _ ?_ ?_ ?_ ?_ ?_ ?_
    · decide +kernel
    · decide +kernel
    · decide +kernel
    · decide +kernel
    · decide +kernel
  exact ret_step (h _)

/-- The last copies, chunks 6 and 7, and the first wait for a received row. -/
theorem part15_spec {R : sProp 𝕄} {Q : BitVec 1 → sProp 𝕄} {v w : BitVec 32}
    (h : iprop(Ctx m ρ ∗ ((R ∗ ownPts m ρ (keep (31 - c.val)) c ∗ SndCred c) ∗ VecSt m ρ c 8) ∗ RcvSt m ρ c 1) ⊢ Q (isAfter 1#32 c)) :
    iprop(Ctx m ρ ∗ ((R ∗ RcvIn c) ∗ VecSt m ρ c 6) ∗ SendSt m ρ c 28) ⊢ WP c
      (k0_part15 xM hx oM ho ownM hw commM hc cc0_scratch2 cc0_scratch3 c (word c) k0_pay2 (run (xstg m ρ c) 6) v w) Q := by
  rw [k0_part15_eq_skeleton]
  unfold k0_part15_skel
  iterate 3
    refine send_at m ρ _ ?_ ?_ ?_ ?_ ?_ ?_
    · decide +kernel
    · decide +kernel
    · decide +kernel
    · decide +kernel
    · decide +kernel
  refine swap1 m ρ ?_
  refine load_seg m ρ 6 (by decide) (by decide) ?_
  refine load_o m ρ fun _ => ?_
  refine store_o m ρ 6 (by decide) (out6 _) ?_
  refine load_seg m ρ 7 (by decide) (by decide) ?_
  refine load_o m ρ fun _ => ?_
  refine store_o m ρ 7 (by decide) (out7 _) ?_
  refine regroup m ρ (R' := iprop((R ∗ ownPts m ρ (keep (31 - c.val)) c ∗ SndCred c) ∗ VecSt m ρ c 8)) (S' := RcvSt m ρ c 0) ?_ ?_
  · iintro ⟨⟨⟨HR, HT⟩, HB⟩, HV⟩
    ihave HD := (send_rcv m ρ c) $$ [HB HT]
    · isplitl [HB]; · iexact HB
      iexact HT
    icases HD with ⟨HD, HS⟩
    isplitl [HR HD HV]
    · isplitl [HR HD]
      · isplitl [HR]; · iexact HR
        iexact HD
      iexact HV
    iexact HS
  iterate 1
    refine rcv_at m ρ _ ?_ ?_ ?_
    · decide +kernel
    · decide +kernel
  exact ret_step h

theorem part16_spec {R : sProp 𝕄} {Q : BitVec 1 → sProp 𝕄}
    (h : iprop(Ctx m ρ ∗ R ∗ RcvSt m ρ c 11) ⊢ Q (isAfter 11#32 c)) :
    iprop(Ctx m ρ ∗ R ∗ RcvSt m ρ c 1) ⊢ WP c (k0_part16 xM hx oM ho ownM hw commM hc cc0_scratch2 cc0_scratch3 (word c) (isAfter 1#32 c)) Q := by
  rw [k0_part16_eq_skeleton]
  unfold k0_part16_skel
  iterate 10
    refine rcv_at m ρ _ ?_ ?_ ?_
    · decide +kernel
    · decide +kernel
  exact ret_step h

theorem part17_spec {R : sProp 𝕄} {Q : BitVec 1 → sProp 𝕄}
    (h : iprop(Ctx m ρ ∗ R ∗ RcvSt m ρ c 21) ⊢ Q (isAfter 21#32 c)) :
    iprop(Ctx m ρ ∗ R ∗ RcvSt m ρ c 11) ⊢ WP c (k0_part17 xM hx oM ho ownM hw commM hc cc0_scratch2 cc0_scratch3 (word c) (isAfter 11#32 c)) Q := by
  rw [k0_part17_eq_skeleton]
  unfold k0_part17_skel
  iterate 10
    refine rcv_at m ρ _ ?_ ?_ ?_
    · decide +kernel
    · decide +kernel
  exact ret_step h

theorem part18_spec {R : sProp 𝕄} {Q : IVec S32x512 1 → sProp 𝕄}
    (h : iprop(Ctx m ρ ∗ R ∗ RcvSt m ρ c 31) ⊢ Q (k0_pay25 (word c))) :
    iprop(Ctx m ρ ∗ R ∗ RcvSt m ρ c 21) ⊢ WP c (k0_part18 xM hx oM ho ownM hw commM hc cc0_scratch2 cc0_scratch3 (word c) (isAfter 21#32 c)) Q := by
  rw [k0_part18_eq_skeleton]
  unfold k0_part18_skel
  iterate 10
    refine rcv_at m ρ _ ?_ ?_ ?_
    · decide +kernel
    · decide +kernel
  exact ret_step h

end Parts
end Cert.Scan

end
-- ==== Proof.PartsEnd.lean ====
module

public import proofs.«01_k».proof.Proof.PartsMid

/-! The end of the body: the received rows added, the waits for the departures. -/

@[expose] public section

noncomputable section

namespace Cert.Scan

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)
variable {α : Type} {c : Dev nD}

section Parts
variable {hx : xM.IsWhole} {ho : oM.IsWhole} {hw : ownM.IsWhole} {hc : commM.IsWhole}

/-- The received rows are summed and added, then the first waits for departures. -/
theorem part19_spec {R : sProp 𝕄} {Q : BitVec 32 → sProp 𝕄}
    (h : ∀ w, iprop(Ctx m ρ ∗ ((R ∗ OutSt m ρ c) ∗ CommSt m ρ c) ∗ SndSt m ρ c 5) ⊢ Q w) :
    iprop(Ctx m ρ ∗ ((R ∗ SndSt m ρ c 0) ∗ VecSt m ρ c 8) ∗ CommSt m ρ c) ⊢ WP c
      (k0_part19 xM hx oM ho ownM hw commM hc cc0_scratch2 cc0_scratch3 c (word c) (k0_pay25 (word c))) Q := by
  rw [k0_part19_eq_skeleton]
  unfold k0_part19_skel
  refine load_comm m ρ (by decide) fun g hg => ?_
  refine swap1 m ρ ?_
  refine load_scan m ρ (by decide) ?_
  refine load_o m ρ fun _ => ?_
  refine store_out m ρ (by decide) (pay26_congr c hg _) ?_
  refine swap2 m ρ ?_
  iterate 5
    refine snd_at m ρ _ ?_ ?_ ?_
    · decide +kernel
    · decide +kernel
  exact ret_step (h _)

theorem part20_spec {R : sProp 𝕄} {Q : BitVec 32 → sProp 𝕄} {v : BitVec 32}
    (h : ∀ w, iprop(Ctx m ρ ∗ R ∗ SndSt m ρ c 12) ⊢ Q w) :
    iprop(Ctx m ρ ∗ R ∗ SndSt m ρ c 5) ⊢ WP c (k0_part20 xM hx oM ho ownM hw commM hc cc0_scratch2 cc0_scratch3 c (word c) v) Q := by
  rw [k0_part20_eq_skeleton]
  unfold k0_part20_skel
  iterate 7
    refine snd_at m ρ _ ?_ ?_ ?_
    · decide +kernel
    · decide +kernel
  exact ret_step (h _)

theorem part21_spec {R : sProp 𝕄} {Q : BitVec 32 → sProp 𝕄} {v : BitVec 32}
    (h : ∀ w, iprop(Ctx m ρ ∗ R ∗ SndSt m ρ c 20) ⊢ Q w) :
    iprop(Ctx m ρ ∗ R ∗ SndSt m ρ c 12) ⊢ WP c (k0_part21 xM hx oM ho ownM hw commM hc cc0_scratch2 cc0_scratch3 c (word c) v) Q := by
  rw [k0_part21_eq_skeleton]
  unfold k0_part21_skel
  iterate 8
    refine snd_at m ρ _ ?_ ?_ ?_
    · decide +kernel
    · decide +kernel
  exact ret_step (h _)

theorem part22_spec {R : sProp 𝕄} {Q : BitVec 32 → sProp 𝕄} {v : BitVec 32}
    (h : ∀ w, iprop(Ctx m ρ ∗ R ∗ SndSt m ρ c 27) ⊢ Q w) :
    iprop(Ctx m ρ ∗ R ∗ SndSt m ρ c 20) ⊢ WP c (k0_part22 xM hx oM ho ownM hw commM hc cc0_scratch2 cc0_scratch3 c (word c) v) Q := by
  rw [k0_part22_eq_skeleton]
  unfold k0_part22_skel
  iterate 7
    refine snd_at m ρ _ ?_ ?_ ?_
    · decide +kernel
    · decide +kernel
  exact ret_step (h _)

end Parts
end Cert.Scan

end
-- ==== Proof.Ends.lean ====
module

public import proofs.«01_k».proof.Proof.PartsEnd

/-! What a device holds when its body starts and when it ends: the landing buffer cut into rows and put together again,
    the lent pieces of the column sums rejoined, the positions dealt to the phases, and every cell closed. -/

@[expose] public section

noncomputable section

namespace Cert.Scan

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

/-! ## Families by number -/

theorem each {I : Type} {s : Finset I} {Φ Ψ : I → sProp 𝕄} (h : ∀ i ∈ s, Φ i ⊢ Ψ i) : (bigSep s Φ : sProp 𝕄) ⊢ bigSep s Ψ := bigSep_mono h

theorem range_cut (Φ : ℕ → sProp 𝕄) {a b : ℕ} (h : a ≤ b) :
    bigSep (Finset.range b) Φ = iprop(bigSep (Finset.range a) Φ ∗ bigSep (Finset.Ico a b) Φ) := by
  have e : Finset.range b = Finset.range a ∪ Finset.Ico a b := by
    ext x; simp only [Finset.mem_range, Finset.mem_union, Finset.mem_Ico]; omega
  rw [e, bigSep_union (Finset.disjoint_left.mpr fun x hx hy => by
    rw [Finset.mem_range] at hx; rw [Finset.mem_Ico] at hy; omega)]
  rfl

theorem bigSep_dv (Φ : ℕ → sProp 𝕄) : bigSep Finset.univ (fun t : Dev nD => Φ t.val) = bigSep (Finset.range 32) Φ :=
  Ring.bigSep_fin_eq_range 32 (fun t : Fin 32 => Φ t.val) Φ fun _ _ => rfl

/-- Something of each of a device's cells: of the barrier cell, of the send cells, of the receive cells. -/
theorem cells_cut (c : Dev nD) (Φ : GSem nD τ sig → sProp 𝕄) :
    bigSep Finset.univ (fun k : CI => Φ (kcell (c, k)))
      = iprop(Φ (barC c) ∗ (bigSep (Finset.range 31) fun j => Φ (sndC c j)) ∗ bigSep (Finset.range 32) fun s => Φ (rcvC c s)) := by
  refine (BI.bigSep_univ_sum _).trans ?_
  have e : bigSep Finset.univ (fun a : Unit => Φ (kcell (c, .inl a))) = Φ (barC c) := by
    rw [show (Finset.univ : Finset Unit) = {()} from rfl, bigSep_singleton]
  rw [e, BI.bigSep_univ_sum]
  rw [Ring.bigSep_fin_eq_range 31 (fun j : Fin 31 => Φ (kcell (c, .inr (.inl j)))) (fun j => Φ (sndC c j)) fun _ _ => rfl,
    Ring.bigSep_fin_eq_range 32 (fun s : Fin 32 => Φ (kcell (c, .inr (.inr s)))) (fun s => Φ (rcvC c s)) fun _ _ => rfl]
  rfl

/-! ## The landing buffer -/

/-- A device's landing buffer, at contents not known. -/
def CommAny (c : Dev nD) : sProp 𝕄 := iprop(∃ f, ((c : Thread nD τ).loc cc0_scratch1) ↦{fullShare} f)
/-- A row of it, at contents not known. -/
def RowAny (c : Dev nD) (t : ℕ) : sProp 𝕄 := iprop(∃ f, slotPts c (dv t) f)
/-- The rows nobody sends to. -/
def Kept (c : Dev nD) : sProp 𝕄 := bigSep (Finset.Ico c.val 32) fun t => RowAny c t

/-- The buffer is its rows. -/
theorem comm_rows (c : Dev nD) (f : Buf (Elt F) ((c : Thread nD τ).loc cc0_scratch1)) :
    ((((c : Thread nD τ).loc cc0_scratch1) ↦{fullShare} f) : sProp 𝕄) = bigSep Finset.univ fun t : Dev nD => slotPts c t f := by
  have e := pointsTo_biUnion (Val := Elt F) (Ix := Unit) (Name := ℕ) (U := UU) (Lvl := ℕ) (ℓ := ((c : Thread nD τ).loc cc0_scratch1)) (q := fullShare) (f := f)
    (Finset.univ : Finset (Dev nD)) slotSet (fun t _ t' _ h => slotSet_disjoint h)
  rw [slotSet_biUnion] at e
  exact e

theorem comm_split (c : Dev nD) :
    (CommAny c : sProp 𝕄) ⊢ iprop((bigSep (Finset.range c.val) fun t => RowAny c t) ∗ Kept c) := by
  have hlt := dev_lt c
  unfold CommAny Kept
  rw [← range_cut (RowAny (F := F) c) (by omega), ← bigSep_dv]
  iintro ⟨%f, H⟩
  have hm : ((((c : Thread nD τ).loc cc0_scratch1) ↦{fullShare} f) : sProp 𝕄) ⊢ bigSep Finset.univ fun t : Dev nD => RowAny c t.val := by
    rw [comm_rows]
    refine each fun t _ => ?_
    unfold RowAny; rw [dv_self]; iintro H; iexists f; iexact H
  iapply hm
  iexact H

/-- The contents a row may have: the sender's column sums if its sender comes before, any otherwise. -/
abbrev RowVal (c t : Dev nD) : Type := {f : Vec F S32x1x512 .f32 // t.val < c.val → f = commAll m ρ}
instance RowVal_nonempty (c t : Dev nD) : Nonempty (RowVal m ρ c t) := ⟨⟨commAll m ρ, fun _ => rfl⟩⟩
/-- A row, at such contents. -/
def RowSt (c t : Dev nD) : sProp 𝕄 := iprop(∃ f : RowVal m ρ c t, slotPts c t f.1)

theorem comm_join (c : Dev nD) :
    iprop((bigSep (Finset.range c.val) fun j => rcvPay m ρ c j) ∗ Kept c) ⊢ CommSt m ρ c := by
  have hlt := dev_lt c
  have hr : iprop((bigSep (Finset.range c.val) fun j => rcvPay m ρ c j) ∗ Kept c) ⊢ bigSep Finset.univ fun t : Dev nD => RowSt m ρ c t := by
    have e : (bigSep Finset.univ fun t : Dev nD => RowSt m ρ c t) = bigSep Finset.univ fun t : Dev nD => RowSt m ρ c (dv t.val) :=
      bigSep_congr fun t _ => by rw [dv_self]
    rw [e, bigSep_dv fun t => RowSt m ρ c (dv t), range_cut _ (show c.val ≤ 32 by omega)]
    unfold Kept
    have h1 : ∀ j ∈ Finset.range c.val, rcvPay m ρ c j ⊢ RowSt m ρ c (dv j) := by
      intro j hj
      unfold rcvPay RowSt
      iintro H; iexists ⟨commAll m ρ, fun _ => rfl⟩; iexact H
    have h2 : ∀ j ∈ Finset.Ico c.val 32, (RowAny c j : sProp 𝕄) ⊢ RowSt m ρ c (dv j) := by
      intro j hj
      have hj := Finset.mem_Ico.mp hj
      unfold RowAny RowSt
      iintro ⟨%f, H⟩
      iexists ⟨f, fun h => absurd h (by rw [dv_val hj.2]; omega)⟩
      iexact H
    iintro ⟨H1, H2⟩
    isplitl [H1]
    · iapply (each h1); iexact H1
    iapply (each h2); iexact H2
  refine hr.trans ?_
  unfold RowSt CommSt
  refine (bigSep_exists_pi Finset.univ (fun (t : Dev nD) (f : RowVal m ρ c t) => slotPts c t f.1)).trans ?_
  show (iprop(∃ fs : (t : Dev nD) → RowVal m ρ c t, bigSep Finset.univ fun t => slotPts c t (fs t).1) : sProp 𝕄) ⊢ _
  iintro ⟨%fs, H⟩
  have hj := pointsTo_biUnion_join (Val := Elt F) (Ix := Unit) (Name := ℕ) (U := UU) (Lvl := ℕ) (ℓ := ((c : Thread nD τ).loc cc0_scratch1)) (q := fullShare)
    (Finset.univ : Finset (Dev nD)) slotSet (fun t => (fs t).1) (commAll m ρ) (fun t _ t' _ h => slotSet_disjoint h)
  rw [slotSet_biUnion] at hj
  have hj' : (bigSep Finset.univ fun t : Dev nD => slotPts c t (fs t).1 : sProp 𝕄) ⊢ _ := hj
  ihave H2 := hj' $$ H
  icases H2 with ⟨%g, %hg, H⟩
  iexists g
  isplitr
  · ipureintro
    intro y hy
    refine (hg (dv (y 0).val) (Finset.mem_univ _) y ((mem_slotSet _ y).mpr (dv_val (y 0).isLt).symm)).trans ?_
    rw [(fs (dv (y 0).val)).2 (by rw [dv_val (y 0).isLt]; exact hy)]
  iexact H

/-! ## The column sums -/

/-- Every lent piece back: the buffer is whole again. -/
theorem own_join (c : Dev nD) (n : ℕ) :
    iprop(ownPts m ρ (keep n) c ∗ bigSep (Finset.range n) fun j => sndPay m ρ c j) ⊢ ownPts m ρ (keep 0) c := by
  induction n with
  | zero => iintro ⟨H, -⟩; iexact H
  | succ n ih =>
    rw [bigSep_range_succ]
    refine BI.Entails.trans ?_ ih
    show _ ⊢ (iprop(ownPts m ρ (keep n) c ∗ bigSep (Finset.range n) fun j => sndPay m ρ c j) : sProp 𝕄)
    iintro ⟨H1, H2, H⟩
    isplitr [H]
    · unfold sndPay ownPts
      iapply (pointsTo_share (PosShare.mem_left_op_right (keep n))).2
      isplitl [H2]; · iexact H2
      iexact H1
    iexact H

theorem own_any (c : Dev nD) : ownPts m ρ (keep 0) c ⊢ OwnAny c := by
  unfold ownPts OwnAny
  rw [View.set_whole]
  iintro H; iexists (tot m ρ c); iexact H

/-! ## The start -/

/-- A device's tokens of the signals it gives. -/
def SigTok (c : Dev nD) : sProp 𝕄 := bigSep (Finset.range c.val) fun t => dutyTok ER (barC (dv t)) 0 c.val
/-- Its credits of the copies to receive. -/
def RcvCred (c : Dev nD) : sProp 𝕄 := bigSep (Finset.range c.val) fun s => cred (tallyAt (rcvC c s) () N)
/-- The positions of its cells. -/
def Pos (c : Dev nD) : sProp 𝕄 := bigSep Finset.univ fun k : CI => atPos ER (kcell (c, k)) 0 ∅ 0
/-- The cells nothing is sent to: done. -/
def Idle (c : Dev nD) : sProp 𝕄 :=
  iprop((bigSep (Finset.Ico (31 - c.val) 31) fun j => doneAt m ρ (sndC c j)) ∗ bigSep (Finset.Ico c.val 32) fun s => doneAt m ρ (rcvC c s))

theorem pos_cut (c : Dev nD) :
    iprop(Pos c ∗ RcvCred c) ⊢ iprop(atPos ER (barC c) 0 ∅ 0 ∗ SndPos c ∗ RcvIn c ∗ Idle m ρ c) := by
  have hlt := dev_lt c
  unfold Pos RcvCred SndPos RcvIn Idle
  rw [cells_cut c fun g => atPos ER g 0 ∅ 0, range_cut _ (show 31 - c.val ≤ 31 by omega), range_cut _ (show c.val ≤ 32 by omega),
    ← Finset.range_eq_Ico, ← Finset.range_eq_Ico, bigSep_sep']
  have h1 : ∀ j ∈ Finset.Ico (31 - c.val) 31, (atPos ER (sndC c j) 0 ∅ 0 : sProp 𝕄) ⊢ doneAt m ρ (sndC c j) := by
    intro j hj
    have hj := Finset.mem_Ico.mp hj
    exact doneAt_never m ρ _ (by rw [duties_snd m ρ c (by omega), if_neg (by omega)])
  have h2 : ∀ s ∈ Finset.Ico c.val 32, (atPos ER (rcvC c s) 0 ∅ 0 : sProp 𝕄) ⊢ doneAt m ρ (rcvC c s) := by
    intro s hs
    have hs := Finset.mem_Ico.mp hs
    exact doneAt_never m ρ _ (by rw [duties_rcv m ρ c (by omega), if_neg (by omega)])
  iintro ⟨⟨Hb, ⟨Hs, Hs'⟩, Hr, Hr'⟩, Hc⟩
  isplitl [Hb]; · iexact Hb
  isplitl [Hs]; · iexact Hs
  isplitl [Hr Hc]
  · isplitl [Hc]; · iexact Hc
    iexact Hr
  isplitl [Hs']
  · iapply (each h1); iexact Hs'
  iapply (each h2); iexact Hr'

theorem sig_start (c : Dev nD) {W : Waits sig Unit} :
    (iprop(owes (c : Thread nD τ) (O₀ c) W ∗ SigTok c ∗ CommAny c) : sProp 𝕄) ⊢ iprop(SigSt c 0 ∗ Kept c) := by
  unfold SigSt SigTok
  rw [Nat.sub_zero, bigSep_sep']
  iintro ⟨HO, HT, HC⟩
  ihave HC := (comm_split c) $$ HC
  icases HC with ⟨HC, HK⟩
  isplitr [HK]
  · isplitl [HO]; · iexists W; iexact HO
    isplitl [HT]; · iexact HT
    iexact HC
  iexact HK

/-! ## The end -/

/-- A device's counters, at zero. -/
def Zeros (c : Dev nD) : sProp 𝕄 := bigSep Finset.univ fun k : CI => semVal (kcell (c, k)) 0

theorem close_all (c : Dev nD) :
    iprop(Ctx m ρ ∗ bigSep Finset.univ fun k : CI => doneAt m ρ (kcell (c, k))) ⊢ |={Set.univ}=> Zeros (F := F) c := by
  refine BI.Entails.trans (bigSep_with_persistent (Ψ := fun k : CI => iprop(|={Set.univ}=> semVal (kcell (c, k)) 0)) fun k _ => ?_) (bigSep_fupd _ _)
  iintro ⟨HC, HD⟩
  unfold doneAt
  icases HD with ⟨%R, %hR, Hat⟩
  ihave HI := (ctx_inv m ρ (c, k)) $$ HC
  icases HI with ⟨%κ, HI⟩
  iapply (Rounds.cell_close ER (sched m ρ) (Set.mem_univ κ) (fun h => h) (R := R) hR)
  isplitl [HI]; · iexact HI
  iexact Hat

/-- What the last phase leaves aside. -/
def Aside (c : Dev nD) : sProp 𝕄 :=
  iprop(doneAt m ρ (barC c) ∗ ownPts m ρ (keep (31 - c.val)) c ∗ Idle m ρ c ∗ bigSep (Finset.range c.val) fun s => doneAt m ρ (rcvC c s))

theorem the_end (c : Dev nD) :
    iprop(Ctx m ρ ∗ Aside m ρ c ∗ SndSt m ρ c 31)
      ⊢ |={Set.univ}=> iprop(Zeros c ∗ OwnAny c ∗ ∃ W, owes (c : Thread nD τ) 0 W) := by
  have hlt := dev_lt c
  iintro ⟨HC, HA, HS⟩
  ihave HS := (snd_end m ρ c) $$ HS
  unfold Aside Idle SndOut
  rw [bigSep_sep']
  icases HS with ⟨HO, Hsd, Hsp⟩
  icases HA with ⟨Hb, Hown, ⟨Hi1, Hi2⟩, Hr⟩
  ihave Hown := (own_join m ρ c _) $$ [Hown Hsp]
  · isplitl [Hown]; · iexact Hown
    iexact Hsp
  ihave Hown := (own_any m ρ c) $$ Hown
  have hz := close_all m ρ c
  rw [cells_cut c fun g => doneAt m ρ g, range_cut _ (show 31 - c.val ≤ 31 by omega), range_cut _ (show c.val ≤ 32 by omega)] at hz
  imod hz $$ [HC Hb Hi1 Hi2 Hr Hsd] with HZ
  · isplitl [HC]; · iexact HC
    isplitl [Hb]; · iexact Hb
    isplitl [Hsd Hi1]
    · isplitl [Hsd]; · iexact Hsd
      iexact Hi1
    isplitl [Hr]; · iexact Hr
    iexact Hi2
  imodintro
  isplitl [HZ]; · iexact HZ
  isplitl [Hown]; · iexact Hown
  iexact HO

end Cert.Scan

end
-- ==== Proof.Body.lean ====
module

public import proofs.«01_k».proof.Proof.Ends

/-! The whole body of the kernel on one device, its parts in order. -/

@[expose] public section

noncomputable section

namespace Cert.Scan

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)
variable {α : Type} {c : Dev nD}

/-- One part, then the rest. -/
theorem bind_step {β : Type} {P : sProp 𝕄} {Q : β → sProp 𝕄} {J : Prog (TpuEff nD τ sig (Elt F) Λ₀ .tc) α} {K : α → Prog (TpuEff nD τ sig (Elt F) Λ₀ .tc) β}
    (h : P ⊢ WP c J (fun a => WP c (K a) Q)) : P ⊢ WP c (J >>= K) Q := by
  simp only [WP_eq] at h ⊢
  rw [wp_bind]
  exact h

/-- The end of a program, with an update of what is held. -/
theorem end_step {Q : α → sProp 𝕄} {P : sProp 𝕄} {a : α} (h : P ⊢ |={Set.univ}=> Q a) : P ⊢ WP c (pure a) Q := by
  rw [WP_eq, wp_pure]
  exact h

/-- What the phases after the barrier need. -/
def Later (c : Dev nD) : sProp 𝕄 := iprop(RcvIn c ∗ SndPos c ∗ Kept c ∗ Idle m ρ c)
/-- What the phases after the last copy need. -/
def After (c : Dev nD) : sProp 𝕄 := iprop(SndPos c ∗ Kept c ∗ Idle m ρ c ∗ doneAt m ρ (barC c))
/-- What the barrier phase needs. -/
def BarIn (c : Dev nD) : sProp 𝕄 := iprop(atPos ER (barC c) 0 ∅ 0 ∗ cred (tallyAt (barC c) () (31 - c.val)))

/-- From the signals to the waits on the barrier. -/
theorem to_bar (c : Dev nD) {V : sProp 𝕄} :
    iprop((((BarIn c ∗ SendTok c ∗ Later m ρ c) ∗ SigSt c 31) ∗ ownPts m ρ (keep 0) c) ∗ V)
      ⊢ iprop(((Later m ρ c ∗ SendTok c ∗ ownPts m ρ (keep 0) c) ∗ BarSt m ρ c 0) ∗ V) := by
  iintro ⟨⟨⟨⟨HB, HT, HL⟩, HS⟩, HO⟩, HV⟩
  isplitr [HV]
  · isplitr [HB HS]
    · isplitl [HL]; · iexact HL
      isplitl [HT]; · iexact HT
      iexact HO
    · iapply (sig_bar m ρ c)
      isplitl [HS]; · iexact HS
      unfold BarIn; iexact HB
  iexact HV

/-- The scan set aside while the copies start. -/
theorem to_send (c : Dev nD) {T V B : sProp 𝕄} :
    iprop(((Later m ρ c ∗ T) ∗ V) ∗ B) ⊢ iprop(((Later m ρ c ∗ V) ∗ T) ∗ B) := by
  iintro ⟨⟨⟨HL, HT⟩, HV⟩, HB⟩
  isplitr [HB]
  · isplitr [HT]
    · isplitl [HL]; · iexact HL
      iexact HV
    iexact HT
  iexact HB

/-- What the copies to receive need comes to the front. -/
theorem to_rcv (c : Dev nD) {V S : sProp 𝕄} :
    iprop(((Later m ρ c ∗ V) ∗ doneAt m ρ (barC c)) ∗ S) ⊢ iprop(((After m ρ c ∗ RcvIn c) ∗ V) ∗ S) := by
  unfold Later After
  iintro ⟨⟨⟨⟨HI, HP, HK, HD⟩, HV⟩, HB⟩, HS⟩
  isplitr [HS]
  · isplitr [HV]
    · isplitr [HI]
      · isplitl [HP]; · iexact HP
        isplitl [HK]; · iexact HK
        isplitl [HD]; · iexact HD
        iexact HB
      iexact HI
    iexact HV
  iexact HS

/-- All copies received: the landing buffer is whole, and the waits for the departures may start. -/
theorem to_gather (c : Dev nD) {V : sProp 𝕄} :
    iprop(((After m ρ c ∗ ownPts m ρ (keep (31 - c.val)) c ∗ SndCred c) ∗ V) ∗ RcvSt m ρ c 31)
      ⊢ iprop(((Aside m ρ c ∗ SndSt m ρ c 0) ∗ V) ∗ CommSt m ρ c) := by
  unfold After Aside
  iintro ⟨⟨⟨⟨HP, HK, HD, HB⟩, HO, HC⟩, HV⟩, HR⟩
  ihave HX := (rcv_snd m ρ c) $$ [HR HC HP]
  · isplitl [HR]; · iexact HR
    isplitl [HC]; · iexact HC
    iexact HP
  unfold RcvOut
  rw [bigSep_sep']
  icases HX with ⟨⟨Hrd, Hrp⟩, HS⟩
  ihave HG := (comm_join m ρ c) $$ [Hrp HK]
  · isplitl [Hrp]; · iexact Hrp
    iexact HK
  isplitr [HG]
  · isplitr [HV]
    · isplitr [HS]
      · isplitl [HB]; · iexact HB
        isplitl [HO]; · iexact HO
        isplitl [HD]; · iexact HD
        iexact Hrd
      iexact HS
    iexact HV
  iexact HG

/-- What a device's body leaves. -/
def Finish (c : Dev nD) : sProp 𝕄 := iprop(Zeros c ∗ OwnAny c ∗ CommAny c ∗ (∃ W, owes (c : Thread nD τ) 0 W) ∗ OutSt m ρ c)

theorem to_finish (c : Dev nD) :
    iprop(Ctx m ρ ∗ ((Aside m ρ c ∗ OutSt m ρ c) ∗ CommSt m ρ c) ∗ SndSt m ρ c 31) ⊢ |={Set.univ}=> Finish m ρ c := by
  iintro ⟨HC, ⟨⟨HA, HO⟩, HG⟩, HS⟩
  imod (the_end m ρ c) $$ [HC HA HS] with ⟨HZ, Hown, Howe⟩
  · isplitl [HC]; · iexact HC
    isplitl [HA]; · iexact HA
    iexact HS
  imodintro
  unfold Finish
  isplitl [HZ]; · iexact HZ
  isplitl [Hown]; · iexact Hown
  isplitl [HG]
  · unfold CommSt CommAny
    icases HG with ⟨%g, -, HG⟩
    iexists g; iexact HG
  isplitl [Howe]; · iexact Howe
  iexact HO

set_option maxRecDepth 8000 in
/-- The body, part after part. -/
theorem body_chain {hx : xM.IsWhole} {ho : oM.IsWhole} {hw : ownM.IsWhole} {hc : commM.IsWhole} :
    iprop(Ctx m ρ ∗ (((BarIn c ∗ SendTok c ∗ Later m ρ c) ∗ VecSt m ρ c 0) ∗ OwnAny c) ∗ SigSt c 0)
      ⊢ WP c (cc0_body xM hx oM ho ownM hw commM hc cc0_scratch2 cc0_scratch3) (fun _ => Finish m ρ c) := by
  rw [cc0_body_eq_skeleton]
  unfold cc0_body_skel
  refine bind_step (part1_spec m ρ fun _ => ?_)
  refine bind_step (part2_spec m ρ fun _ => ?_)
  refine bind_step (part3_spec m ρ fun _ => ?_)
  refine bind_step (part4_spec m ρ fun _ => ?_)
  refine bind_step (part5_spec m ρ ?_)
  refine bind_step (part6_spec m ρ ?_)
  refine regroup m ρ (to_bar m ρ c) ?_
  refine bind_step (part7_spec m ρ ?_)
  refine bind_step (part8_spec m ρ ?_)
  refine bind_step (part9_spec m ρ ?_)
  refine bind_step (part10_spec m ρ ?_)
  refine regroup m ρ (to_send m ρ c) ?_
  refine bind_step (part11_spec m ρ fun _ => ?_)
  refine bind_step (part12_spec m ρ fun _ => ?_)
  refine bind_step (part13_spec m ρ fun _ => ?_)
  refine bind_step (part14_spec m ρ fun _ => ?_)
  refine regroup m ρ (to_rcv m ρ c) ?_
  refine bind_step (part15_spec m ρ ?_)
  refine bind_step (part16_spec m ρ ?_)
  refine bind_step (part17_spec m ρ ?_)
  refine bind_step (part18_spec m ρ ?_)
  refine regroup m ρ (to_gather m ρ c) ?_
  refine bind_step (part19_spec m ρ fun _ => ?_)
  refine bind_step (part20_spec m ρ fun _ => ?_)
  refine bind_step (part21_spec m ρ fun _ => ?_)
  refine bind_step (part22_spec m ρ fun _ => ?_)
  iterate 4
    refine snd_at m ρ _ ?_ ?_ ?_
    · decide +kernel
    · decide +kernel
  exact end_step (to_finish m ρ c)

end Cert.Scan

end
-- ==== Proof.Oblig.lean ====
module

public import proofs.«01_k».proof.Proof.Body
public import proofs.«01_k».proof.Proof.Gen.KernelIdeal.Points

/-! The body as the pipeline calls it: what is held before and after the one grid point, and the body's obligation. -/

@[expose] public section

noncomputable section

namespace Cert.Scan

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ UU ℕ

variable (m : (ℓ : Loc nD τ sig) → Buf (Elt F) ℓ) (ρ : Dev nD → PrngReg)

/-- What a device starts from: the shared knowledge, its positions, its tokens, its credits. -/
def start (c : Dev nD) : sProp 𝕄 :=
  iprop(Ctx m ρ ∗ Pos c ∗ SigTok c ∗ SendTok c ∗ cred (tallyAt (barC c) () (31 - c.val)) ∗ RcvCred c)

/-- Before the point: that, and the two scratch buffers; -/
def Φ₀ (c : Dev nD) : sProp 𝕄 := iprop(start m ρ c ∗ OwnAny c ∗ CommAny c)
/-- after it: the scratch buffers and every counter at zero. -/
def Φ₁ (c : Dev nD) : sProp 𝕄 := iprop(Zeros c ∗ OwnAny c ∗ CommAny c)

/-- The proof data of the pipeline: what the body leaves in the two staged blocks, what is held, what is owed. -/
def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
    | ⟨1, _⟩ => outAt m ρ c
  Φ t := match t with
    | ⟨0, _⟩ => Φ₀ m ρ c
    | ⟨_ + 1, _⟩ => Φ₁ c
  q _ := fullShare
  owed t := match t with
    | ⟨0, _⟩ => O₀ c
    | ⟨_ + 1, _⟩ => 0

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-- A staged block at contents `X`. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

set_option maxRecDepth 4000 in
def bodyPre (c : Dev nD) : sProp 𝕄 :=
  iprop(Φ₀ m ρ c ∗ (dats m ρ 0 c).owesAt () t0_0.castSucc
    ∗ (∃ d, stg c cc0_stg0_0 ((dats m ρ 0 c).before (0 : Fin 2) t0_0 d))
    ∗ (∃ d, stg c cc0_stg1_0 ((dats m ρ 0 c).before (1 : Fin 2) t0_0 d)))

def bodyPost (c : Dev nD) : sProp 𝕄 :=
  iprop(Φ₁ c ∗ (dats m ρ 0 c).owesAt () t0_0.succ ∗ stg c cc0_stg0_0 (xstg m ρ c) ∗ stg c cc0_stg1_0 (outAt m ρ c))

/-- What is held before the point is what the body starts from. -/
theorem pre_body (c : Dev nD) :
    bodyPre m ρ c ⊢ iprop(Ctx m ρ ∗ (((BarIn c ∗ SendTok c ∗ Later m ρ c) ∗ VecSt m ρ c 0) ∗ OwnAny c) ∗ SigSt c 0) := by
  unfold bodyPre Φ₀ start Dat.owesAt Pipeline.owesWithin BarIn Later VecSt
  rw [show (dats m ρ 0 c).owed t0_0.castSucc = O₀ c from rfl]
  iintro ⟨⟨⟨HC, HP, HST, HT, Hcb, Hcr⟩, Hown, Hcomm⟩, ⟨%W, %hW, HO⟩, ⟨%d0, %g0, %hg0, Hx⟩, ⟨%d1, %g1, %hg1, Hout⟩⟩
  have hx : g0 = xstg m ρ c := by rw [hg0]; unfold Dat.before; rw [if_pos (fetch0_0 t0_0)]; rfl
  subst hx
  ihave HP := (pos_cut m ρ c) $$ [HP Hcr]
  · isplitl [HP]; · iexact HP
    iexact Hcr
  icases HP with ⟨Hb, Hs, Hr, Hi⟩
  ihave HS := (sig_start c) $$ [HO HST Hcomm]
  · isplitl [HO]; · iexact HO
    isplitl [HST]; · iexact HST
    iexact Hcomm
  icases HS with ⟨HS, HK⟩
  isplitl [HC]; · iexact HC
  isplitr [HS]
  · isplitr [Hown]
    · isplitr [Hx Hout]
      · isplitl [Hb Hcb]
        · isplitl [Hb]; · iexact Hb
          iexact Hcb
        isplitl [HT]; · iexact HT
        isplitl [Hr]; · iexact Hr
        isplitl [Hs]; · iexact Hs
        isplitl [HK]; · iexact HK
        iexact Hi
      isplitl [Hx]; · iexact Hx
      iexists g1
      isplitr; · (ipureintro; exact upTo_zero _ _)
      iexact Hout
    iexact Hown
  iexact HS

/-- What the body leaves is what is held after the point. -/
theorem post_body (c : Dev nD) : Finish m ρ c ⊢ bodyPost m ρ c := by
  unfold Finish bodyPost Φ₁ Dat.owesAt Pipeline.owesWithin OutSt
  rw [show (dats m ρ 0 c).owed t0_0.succ = 0 from rfl]
  iintro ⟨HZ, Hown, Hcomm, ⟨%W, HO⟩, Hx, Hout⟩
  isplitl [HZ Hown Hcomm]
  · isplitl [HZ]; · iexact HZ
    isplitl [Hown]; · iexact Hown
    iexact Hcomm
  isplitl [HO]
  · iexists W
    isplitr; · (ipureintro; exact fun _ _ => Or.inl trivial)
    iexact HO
  isplitl [Hx]
  · iexists _; isplitr; · (ipureintro; rfl)
    iexact Hx
  iexists _; isplitr; · (ipureintro; rfl)
  iexact Hout

/-- The consequence rule. -/
theorem WP_mono {α : Type} {c : Dev nD} {J : Prog (TpuEff nD τ sig (Elt F) Λ₀ .tc) α} {Q Q' : α → sProp 𝕄} (h : ∀ a, Q a ⊢ Q' a) : WP c J Q ⊢ WP c J Q' := by
  rw [WP_eq, WP_eq]
  exact (wp frame (wpE (defs₀ (F := F)) 𝒱₀ (c : Thread nD τ) none) Set.univ J).mono h

set_option maxRecDepth 4000 in
/-- The body obligation on device `c`. -/
theorem body_obligation (c : Dev nD) : BodyObligation (dats (F := F) m ρ 0 c) (defs₀ (F := F)) 𝒱₀ () Set.univ := fun t => by
  rw [fin_N0 t]
  rw [bigSep_W0, bigSep_W0]
  simp only [owns_whole_eq]
  show bodyPre m ρ c ⊢ wp frame (wpE (defs₀ (F := F)) 𝒱₀ c none) Set.univ
    (cc0_body xM (Memref.isWhole_whole _) oM (Memref.isWhole_whole _) ownM (Memref.isWhole_whole _) commM (Memref.isWhole_whole _) cc0_scratch2 cc0_scratch3)
    (fun _ => bodyPost m ρ c)
  rw [← WP_eq]
  exact (pre_body m ρ c).trans ((body_chain m ρ).trans (WP_mono fun _ => post_body m ρ c))

end Cert.Scan

end
-- ==== Proof.Deal.lean ====
module

public import proofs.«01_k».proof.Proof.Oblig

/-! What the launch deals: the duty tokens, by the device that pays with them; the cells' invariants; and the credits,
    which are what the devices owe, sorted by the device it is owed to. -/

@[expose] public section

noncomputable section

namespace Cert.Scan

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

/-! ## Cells -/

/-- The kernel's own semaphores: the send cells and the receive cells. -/
abbrev osem : Fin 31 ⊕ Fin 32 → SemLoc sig := fun k => csem (.inr k)
theorem ownSemFacts : Pipeline.OwnSemFacts cfg0.spec osem := by decide +kernel

theorem csem_injective : Function.Injective csem := by decide +kernel
theorem kcell_injective : Function.Injective (kcell : Dev nD × CI → GSem nD τ sig) := by
  rintro ⟨c, k⟩ ⟨c', k'⟩ h
  have h1 : c = c' := congrArg (fun g : GSem nD τ sig => g.1.1) h
  have h2 : k = k' := csem_injective (congrArg Prod.snd h)
  rw [h1, h2]
def scanCells : Finset (GSem nD τ sig) := Finset.univ.map ⟨kcell, kcell_injective⟩

/-! ## Tokens -/

/-- The duties device `c` may pay: a signal to each device, a copy to each device, a departure of each distance. -/
abbrev TI : Type := Dev nD ⊕ Dev nD ⊕ Fin 31
abbrev tokOf (ck : Dev nD × TI) : GSem nD τ sig × ℕ × ℕ := match ck.2 with
  | .inl t => (barC t, 0, ck.1.val)
  | .inr (.inl t) => (rcvC t ck.1.val, 0, 0)
  | .inr (.inr j) => (sndC ck.1 j.val, 0, 0)

theorem rcvSem_inj {a b : Dev nD} (h : rcvSem a.val = rcvSem b.val) : a = b := by
  have h' := congrArg Fin.val h
  rw [rcvSem_val (dev_lt a), rcvSem_val (dev_lt b)] at h'
  exact Fin.ext (by omega)
theorem sndSem_inj {a b : Fin 31} (h : sndSem a.val = sndSem b.val) : a = b := by
  have h' := congrArg Fin.val h
  rw [sndSem_val a.isLt, sndSem_val b.isLt] at h'
  exact Fin.ext (by omega)
theorem snd_ne_rcv (a : Fin 31) (b : Dev nD) : sndSem a.val ≠ rcvSem b.val := by
  intro h
  have h' := congrArg Fin.val h
  have := a.isLt
  rw [sndSem_val a.isLt, rcvSem_val (dev_lt b)] at h'
  omega

theorem reg_ne_dma (a : Sem sig) (b : DmaSem sig) : (SemLoc.reg a : SemLoc sig) ≠ .dma b := by intro h; cases h

theorem tokOf_injective : Function.Injective (tokOf : Dev nD × TI → GSem nD τ sig × ℕ × ℕ) := by
  rintro ⟨c, k⟩ ⟨c', k'⟩ h
  have hd : (tokOf (c, k)).1.1.1 = (tokOf (c', k')).1.1.1 := congrArg (fun x : GSem nD τ sig × ℕ × ℕ => x.1.1.1) h
  have hs : (tokOf (c, k)).1.2 = (tokOf (c', k')).1.2 := congrArg (fun x : GSem nD τ sig × ℕ × ℕ => x.1.2) h
  have hn : (tokOf (c, k)).2.2 = (tokOf (c', k')).2.2 := congrArg (fun x : GSem nD τ sig × ℕ × ℕ => x.2.2) h
  rcases k with t | t | j <;> rcases k' with t' | t' | j'
  · have e1 : t = t' := hd
    have e2 : c = c' := Fin.ext hn
    rw [e1, e2]
  · exact absurd hs (reg_ne_dma _ _)
  · exact absurd hs (reg_ne_dma _ _)
  · exact absurd hs.symm (reg_ne_dma _ _)
  · have e1 : t = t' := hd
    have e2 : c = c' := rcvSem_inj (SemLoc.dma.inj hs)
    rw [e1, e2]
  · exact absurd (SemLoc.dma.inj hs).symm (snd_ne_rcv _ _)
  · exact absurd hs.symm (reg_ne_dma _ _)
  · exact absurd (SemLoc.dma.inj hs) (snd_ne_rcv _ _)
  · have e1 : c = c' := hd
    have e2 : j = j' := sndSem_inj (SemLoc.dma.inj hs)
    rw [e1, e2]
def scanToks : Finset (GSem nD τ sig × ℕ × ℕ) := Finset.univ.map ⟨tokOf, tokOf_injective⟩

/-- The launch's element: the pipeline's, and the scan's cells and tokens. -/
def u₀ : UU :=
  (initOf (Pipeline.cells cfgs cellOf_inj) (Pipeline.launchToks cfgs cellOf_inj), initOf scanCells scanToks)

/-- The tokens of device `c`, as minted. -/
def toks (c : Dev nD) : sProp 𝕄 := bigSep Finset.univ fun k : TI => dutyTok ER (tokOf (c, k)).1 (tokOf (c, k)).2.1 (tokOf (c, k)).2.2

theorem toks_deal (c : Dev nD) : (toks c : sProp 𝕄) ⊢ iprop(SigTok c ∗ SendTok c) := by
  have hlt := dev_lt c
  unfold toks SigTok SendTok
  have e1 : (bigSep Finset.univ fun t : Dev nD => (dutyTok ER (barC t) 0 c.val : sProp 𝕄))
      = iprop((bigSep (Finset.range c.val) fun t => dutyTok ER (barC (dv t)) 0 c.val) ∗ bigSep (Finset.Ico c.val 32) fun t => dutyTok ER (barC (dv t)) 0 c.val) := by
    rw [← range_cut (fun t => dutyTok ER (barC (dv t)) 0 c.val) (by omega), ← bigSep_dv]
    exact bigSep_congr fun t _ => by rw [dv_self]
  have e2 : (bigSep Finset.univ fun t : Dev nD => (dutyTok ER (rcvC t c.val) 0 0 : sProp 𝕄))
      = iprop((bigSep (Finset.range (c.val + 1)) fun t => dutyTok ER (rcvC (dv t) c.val) 0 0)
        ∗ bigSep (Finset.Ico 0 (31 - c.val)) fun j => dutyTok ER (rcvC (dv (j + (c.val + 1))) c.val) 0 0) := by
    rw [← bigSep_shift (fun t => dutyTok ER (rcvC (dv t) c.val) 0 0), show c.val + 1 + (31 - c.val) = 32 by omega,
      ← range_cut (fun t => dutyTok ER (rcvC (dv t) c.val) 0 0) (by omega), ← bigSep_dv]
    exact bigSep_congr fun t _ => by rw [dv_self]
  have e3 : (bigSep Finset.univ fun j : Fin 31 => (dutyTok ER (sndC c j.val) 0 0 : sProp 𝕄))
      = iprop((bigSep (Finset.Ico 0 (31 - c.val)) fun j => dutyTok ER (sndC c j) 0 0) ∗ bigSep (Finset.Ico (31 - c.val) 31) fun j => dutyTok ER (sndC c j) 0 0) := by
    rw [← Finset.range_eq_Ico, ← range_cut (fun j => dutyTok ER (sndC c j) 0 0) (by omega)]
    exact Ring.bigSep_fin_eq_range 31 _ _ fun _ _ => rfl
  have e : (bigSep Finset.univ fun k : TI => (dutyTok ER (tokOf (c, k)).1 (tokOf (c, k)).2.1 (tokOf (c, k)).2.2 : sProp 𝕄))
      = iprop((bigSep Finset.univ fun t : Dev nD => dutyTok ER (barC t) 0 c.val) ∗ (bigSep Finset.univ fun t : Dev nD => dutyTok ER (rcvC t c.val) 0 0)
        ∗ bigSep Finset.univ fun j : Fin 31 => dutyTok ER (sndC c j.val) 0 0) := by
    rw [BI.bigSep_univ_sum, BI.bigSep_univ_sum]
    rfl
  rw [e, e1, e2, e3, bigSep_sep']
  iintro ⟨⟨H1, -⟩, ⟨-, H2⟩, H3, -⟩
  isplitl [H1]; · iexact H1
  isplitl [H2]; · iexact H2
  iexact H3

/-! ## The deal -/

/-- What the launch's element gives device `c`; -/
def G (c : Dev nD) : sProp 𝕄 :=
  iprop((bigSep Finset.univ fun k : CI => roundState ER (sched m ρ) (kcell (c, k)) 0)
    ∗ (Pos c ∗ bigSep Finset.univ fun k : CI => reached ER (kcell (c, k)) 0) ∗ toks c)

/-- every cell's invariant, and that every cell has reached its round; -/
def Records : sProp 𝕄 :=
  iprop((bigSep Finset.univ fun ck : Dev nD × CI => iprop(∃ κ : ℕ, cellInv ER (sched m ρ) κ (kcell ck)))
    ∗ bigSep Finset.univ fun ck : Dev nD × CI => reached ER (kcell ck) 0)
instance Records_persistent : BI.Persistent (Records m ρ) := by unfold Records; infer_instance

/-- what device `c` has once the cells are shared. -/
def G' (c : Dev nD) : sProp 𝕄 := iprop(Records m ρ ∗ Pos c ∗ SigTok c ∗ SendTok c)

theorem fund_scan : BI.own (ER (initOf scanCells scanToks)) ⊢ (|==> bigSep Finset.univ (G m ρ) : sProp 𝕄) := by
  have hX (Φ : GSem nD τ sig → sProp 𝕄) : bigSep scanCells Φ = bigSep Finset.univ fun c : Dev nD => bigSep Finset.univ fun k : CI => Φ (kcell (c, k)) := by
    unfold scanCells; rw [bigSep_map, bigSep_univ_prod]; rfl
  have hT : bigSep scanToks (fun x => (dutyTok ER x.1 x.2.1 x.2.2 : sProp 𝕄)) = bigSep Finset.univ fun c : Dev nD => toks c := by
    unfold scanToks toks; rw [bigSep_map, bigSep_univ_prod]; rfl
  iintro HX
  imod (Rounds.fund ER (sched m ρ) scanCells scanToks) $$ HX with ⟨Hst, Hr, Hat, Htok⟩
  imodintro
  ihave Hst' := (Entails.of_eq (hX fun g => roundState ER (sched m ρ) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G Pos; simp only [bigSep_sep']
  isplitl [Hst']; · iexact Hst'
  isplitl [Hat' Hr']
  · isplitl [Hat'] <;> iassumption
  iexact Htok'

theorem unscopedSems0_eq (c : Dev nD) : (unscopedSems0 c : sProp 𝕄) = semVal (barC c) 0 := by
  unfold unscopedSems0; rw [bigSep_eq_bigSepL_of_eq [SemLoc.reg barS] (by decide +kernel) (by decide +kernel)]; rfl

theorem zeros_eq (c : Dev nD) :
    (Zeros c : sProp 𝕄) = iprop(unscopedSems0 c ∗ Pipeline.ownSems0 (Ix := Unit) (Name := ℕ) (U := UU) (Lvl := ℕ) (Val := Elt F) (τ := τ) osem c) := by
  unfold Zeros Pipeline.ownSems0
  rw [BI.bigSep_univ_sum, unscopedSems0_eq, show (Finset.univ : Finset Unit) = {()} from rfl, bigSep_singleton]
  rfl

theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k => iprop(∃ κ : ℕ, cellInv ER (sched m ρ) κ (kcell (c, k))))
          ∗ (bigSep Finset.univ fun k : CI => reached ER (kcell (c, k)) 0) ∗ Pos c ∗ SigTok c ∗ SendTok c) := by
  unfold G
  iintro ⟨Hos, Hus, Hst, ⟨Hat, Hr⟩, Htok⟩
  ihave Hv := (Entails.of_eq (zeros_eq (F := F) c).symm) $$ [Hos Hus]
  · isplitl [Hus] <;> iassumption
  unfold Zeros
  imod (show iprop((bigSep Finset.univ fun k : CI => semVal (kcell (c, k)) 0) ∗ bigSep Finset.univ fun k : CI => roundState ER (sched m ρ) (kcell (c, k)) 0)
      ⊢ (|={Set.univ}=> bigSep Finset.univ fun k => iprop(∃ κ : ℕ, cellInv ER (sched m ρ) κ (kcell (c, k))) : sProp 𝕄) from by
        rw [← bigSep_sep']
        exact (bigSep_mono fun k _ => (Rounds.body_intro ER (sched m ρ) (kcell (c, k))).trans inv_alloc).trans (bigSep_fupd _ _)) $$ [Hv Hst] with Hinv
  · isplitl [Hv] <;> iassumption
  imodintro
  isplitl [Hinv]; · iexact Hinv
  isplitl [Hr]; · iexact Hr
  isplitl [Hat]; · iexact Hat
  iapply (toks_deal (F := F) c); iexact Htok

theorem share_cells :
    (bigSep Finset.univ fun c : Dev nD => iprop((bigSep Finset.univ fun k => iprop(∃ κ : ℕ, cellInv ER (sched m ρ) κ (kcell (c, k))))
          ∗ (bigSep Finset.univ fun k : CI => reached ER (kcell (c, k)) 0) ∗ Pos c ∗ SigTok c ∗ SendTok c) : sProp 𝕄)
      ⊢ bigSep Finset.univ (G' m ρ) := by
  rw [bigSep_sep', bigSep_sep', ← bigSep_univ_prod (fun ck : Dev nD × CI => iprop(∃ κ : ℕ, cellInv ER (sched m ρ) κ (kcell ck))),
    ← bigSep_univ_prod (fun ck : Dev nD × CI => (reached ER (kcell ck) 0 : sProp 𝕄))]
  iintro ⟨HI, HR, H⟩
  have h : iprop(Records m ρ ∗ bigSep Finset.univ fun c : Dev nD => iprop(Pos c ∗ SigTok c ∗ SendTok c)) ⊢ bigSep Finset.univ (G' m ρ) :=
    bigSep_with_persistent fun c _ => by unfold G'; exact BI.Entails.refl _
  iapply h
  unfold Records
  isplitl [HI HR]
  · isplitl [HI] <;> iassumption
  iexact H

/-- The global step: own and unscoped semaphores of every device at once. -/
theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (share_cells m ρ))

/-! ## The credits -/

/-- What is owed to device `c`: a unit of its barrier cell by every later device, a copy by every earlier one. -/
def Due (c : Dev nD) : CellTallies nD τ sig Unit :=
  tallyAt (barC c) () (31 - c.val) + ∑ s ∈ Finset.range c.val, tallyAt (rcvC c s) () N

theorem tally_nsmul (g : GSem nD τ sig) (n : ℕ) : n • (tallyAt g () 1 : CellTallies nD τ sig Unit) = tallyAt g () n := by
  induction n with
  | zero => rw [zero_nsmul, tallyAt_zero]
  | succ n ih => rw [succ_nsmul, ih, tallyAt_add]

theorem sum_dv (f : ℕ → CellTallies nD τ sig Unit) : ∑ t : Dev nD, f t.val = ∑ t ∈ Finset.range 32, f t :=
  Fin.sum_univ_eq_sum_range f 32

theorem sum_below (c : Dev nD) (f : ℕ → CellTallies nD τ sig Unit) :
    ∑ t ∈ Finset.range c.val, f t = ∑ t : Dev nD, if t.val < c.val then f t.val else 0 := by
  have hlt := dev_lt c
  rw [sum_dv fun t => if t < c.val then f t else 0, ← Finset.sum_filter]
  refine Finset.sum_congr ?_ fun _ _ => rfl
  ext t; simp only [Finset.mem_range, Finset.mem_filter]; omega

theorem sum_above (c : Dev nD) (f : ℕ → CellTallies nD τ sig Unit) :
    ∑ j ∈ Finset.Ico 0 (31 - c.val), f (j + (c.val + 1)) = ∑ t : Dev nD, if c.val < t.val then f t.val else 0 := by
  have hlt := dev_lt c
  rw [sum_dv fun t => if c.val < t then f t else 0, ← Finset.sum_filter, Finset.sum_Ico_add' f 0 (31 - c.val) (c.val + 1)]
  refine Finset.sum_congr ?_ fun _ _ => rfl
  ext t; simp only [Finset.mem_Ico, Finset.mem_range, Finset.mem_filter]; omega

theorem owed_eq (d : Dev nD) :
    O₀ d = (∑ t : Dev nD, if d.val < t.val then tallyAt (rcvC t d.val) () N else 0) + ∑ t : Dev nD, if t.val < d.val then tallyAt (barC t) () 1 else 0 := by
  unfold O₀ oSend oSig
  rw [Nat.sub_zero, sum_above d fun t => tallyAt (rcvC (dv t) d.val) () N, sum_below d fun t => tallyAt (barC (dv t)) () 1]
  simp only [dv_self]

theorem due_eq (c : Dev nD) :
    Due c = (∑ d : Dev nD, if c.val < d.val then tallyAt (barC c) () 1 else 0) + ∑ d : Dev nD, if d.val < c.val then tallyAt (rcvC c d.val) () N else 0 := by
  unfold Due
  rw [sum_below c fun s => tallyAt (rcvC c s) () N, ← sum_above c fun _ => tallyAt (barC c) () 1, Finset.sum_const, Nat.card_Ico, Nat.sub_zero, tally_nsmul]

theorem owed_due : (∑ d, O₀ d) = ∑ c, Due c := by
  simp only [owed_eq, due_eq, Finset.sum_add_distrib]
  rw [add_comm]
  congr 1
  · exact Finset.sum_comm
  · exact Finset.sum_comm

theorem due_own (c : Dev nD) (g : GSem nD τ sig) (h : Due c g ≠ 0) : g.1 = (c.tc : Thread nD τ) := by
  obtain ⟨u, hu⟩ := DFunLike.ne_iff.mp h
  have hp : 0 < Due c g u := Nat.pos_of_ne_zero hu
  unfold Due at hp
  rw [Pi.add_apply, Finsupp.add_apply] at hp
  rcases Nat.eq_zero_or_pos ((tallyAt (barC c) () (31 - c.val) : CellTallies nD τ sig Unit) g u) with h0 | h0
  · rw [h0, Nat.zero_add] at hp
    obtain ⟨s, -, hs⟩ := sum_pos_mem _ _ hp
    rw [tallyAt_pos_eq hs]
  · rw [tallyAt_pos_eq h0]

theorem creds (c : Dev nD) : (Pipeline.launchCred O₀ c : sProp 𝕄) ⊢ iprop(cred (tallyAt (barC c) () (31 - c.val)) ∗ RcvCred c) := by
  rw [Pipeline.launchCred_of_sum O₀ Due owed_due due_own c]
  unfold Due RcvCred
  rw [← Pipeline.cred_finsetSum]
  exact (cred_add _ _).1

end Cert.Scan

end
-- ==== Proof.Run.lean ====
module

public import proofs.«01_k».proof.Proof.Deal
public import Idealize.ShloMosaic.Lib.Pipeline.CollectiveSegs

/-! The run of the whole program, from any memory: it ends, every counter at zero, the argument as it was and the result
    at the body's output. -/

@[expose] public section

noncomputable section

namespace Cert.Scan

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ UU ℕ

variable (m : (ℓ : Loc nD τ sig) → Buf (Elt F) ℓ) (ρ : Dev nD → PrngReg)

/-! ## The launch's side conditions -/

theorem share_eq (c : Dev nD) (w : Fin cfg0.W) : (dats m ρ 0 c).share w = fullShare := by unfold Dat.share; split <;> rfl

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  iintro ⟨-, Hlev, Hcr, -, HG⟩
  ihave Hc := (creds (F := F) c) $$ Hcr
  icases Hc with ⟨H1, HN⟩
  imodintro
  unfold start G' Ctx Records
  icases HG with ⟨⟨HI, HR⟩, HP, HS, HT⟩
  isplitl
  · isplitl [HI HR Hlev]
    · isplitl [HI]; · iexact HI
      isplitl [HR]; · iexact HR
      iexact Hlev
    isplitl [HP]; · iexact HP
    isplitl [HS]; · iexact HS
    isplitl [HT]; · iexact HT
    isplitl [H1]; · iexact H1
    iexact HN
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀ OwnAny CommAny
  iintro ⟨Hs, -, Hr⟩
  isplitl [Hs]; · iexact Hs
  iexact Hr

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, scopedRest0_eq]
  unfold Φ₁ OwnAny CommAny
  rw [zeros_eq]
  iintro ⟨⟨Hu, Ho⟩, Hr⟩
  isplitl [Hu]; · iexact Hu
  isplitl [Ho]; · iexact Ho
  iexact Hr

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-! ## The run -/

/-- A window's array at the end. -/
def finalA (c : Dev nD) (w : Fin cfg0.W) : Buf (Elt F) ((cfg0.win w).arr.view.loc (c : Thread nD τ)) := (dats m ρ 0 c).arrAt w cfg0.N

set_option maxRecDepth 8000 in
/-- Every fair run of the program on thirty-two devices, from any memory with zero counters, ends with the two arrays of
    every device at their computed contents and every counter at zero. -/
theorem run_arrays : θ_run defs (onTc (τ := τ) (main (F := F))) (s₀ m ρ) (fun r =>
    (∀ c : Dev nD, ∀ w : Fin cfg0.W, r.2.mem ((cfg0.win w).arr.view.loc (c : Thread nD τ)) = finalA m ρ c w) ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := fun c => (body_obligation m ρ c).loose)
    (hne := block_pos0) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_scan m ρ) $$ HX with HG
      imodintro
      isplitl [HP] <;> iassumption)
    (hglob := glob m ρ)
    (hA := fun _ _ => rfl) (hpf := fun _ k => k.elim0)
    (X := start m ρ) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The argument array after the run holds what it held. -/
theorem final_x (c : Dev nD) : finalA m ρ c (0 : Fin 2) = m ((c : Thread nD τ).loc main_arg0) :=
  (dats (F := F) m ρ 0 c).arrAt_in (0 : Fin 2) rfl _

/-- Every fair run ends with the argument of every device as it was and every counter at zero. -/
theorem run_frame : θ_run defs (onTc (τ := τ) (main (F := F))) ⟨m, fun _ => 0, ρ⟩ (fun r =>
    (∀ c : Dev nD, r.2.mem ((c.tc : Thread nD τ).loc main_arg0) = m ((c.tc : Thread nD τ).loc main_arg0)) ∧ r.2.sem = fun _ => 0) :=
  (θ_run defs _ _).mono (fun _ h => ⟨fun c => (h.1 c (0 : Fin 2)).trans (final_x m ρ c), h.2⟩) (run_arrays m ρ)

end Cert.Scan

end
-- ==== Proof.Equation.lean ====
module

public import proofs.«01_k».proof.Proof.Value
public import proofs.«01_k».proof.Proof.Run

/-! Each device's output is its block of the reference's result. -/

@[expose] public section

noncomputable section

namespace Cert.Scan

open Cert.KernelIdeal Cert.KernelIdeal.Gen
open Idealize.ShloMosaic Idealize.ShloMosaic.TcCoe Idealize.ShloMosaic.ValueIdx
open scoped BigOperators

section Read
variable {F : FTy → Type} [FloatOps F]
variable (m : (ℓ : Loc nD τ sig) → Buf (Elt F) ℓ) (ρ : Dev nD → PrngReg)

/-- The staged block is the argument array. -/
theorem xstg_eq (c : Dev nD) : xstg m ρ c = m ((c : Thread nD τ).loc main_arg0) :=
  Memref.read_access_unit_zero (Elt F) main_arg0 (funext fun a => by fin_cases a <;> decide) (fun a => by fin_cases a <;> decide) _

/-- The result array at the end holds the body's output. -/
theorem final_out (c : Dev nD) : finalA m ρ c (1 : Fin 2) = outAt m ρ c := by
  have hz : (fun a => (win0_1.index (0 : Fin 1)) a * main_v1.ty.shape.size a) = fun _ => 0 :=
    funext fun a => by fin_cases a <;> decide
  have hr := fun f => Memref.read_access_unit_zero (Elt F) main_v1 hz (fun a => by fin_cases a <;> decide) f
  refine (hr _).symm.trans ?_
  show (win0_1.blk (0 : Fin 1)).view.read (Elt F) (finalA m ρ c (1 : Fin 2)) = outAt m ρ c
  unfold finalA
  rw [show cfg0.N = ((0 : Fin 1) : Fin cfg0.N).val + 1 from rfl, (dats m ρ 0 c).arrAt_succ (1 : Fin 2) (0 : Fin 1)]
  rw [show (cfg0.win (1 : Fin 2)).flush (0 : Fin 1) = true from by decide, if_pos rfl]
  exact View.read_write_univ _ _

end Read

/-! ## The equation -/

variable (X : FVec Ideal ⟨2, ![32768, 512]⟩ .f32)

/-- Block `c` of an array of 32768 rows. -/
abbrev blk (X : FVec Ideal ⟨2, ![32768, 512]⟩ .f32) (c : Dev nD) : Vec Ideal S1024x512 .f32 :=
  Layout.block ⟨2, ![1024, 512]⟩ ⟨2, ![32768, 512]⟩ 0 32 c X

/-- Row `r`, column `l` of block `c` of an array. -/
theorem blk_apply (c : Dev nD) (r : Fin 1024) (l : Fin 512) :
    blk X c (ix2 r l) = X (ix2 ⟨1024 * c.val + r.val, by have := c.isLt; have := r.isLt; show _ < 32768; have h : c.val < 32 := c.isLt; omega⟩ l) := by
  refine congrArg X (funext fun a => Fin.ext ?_)
  match a with
  | ⟨0, _⟩ => show c.val * 1024 + r.val = 1024 * c.val + r.val; rw [Nat.mul_comm]
  | ⟨1, _⟩ => rfl

/-- Column `l` of block `c` is the stretch of the whole column from row `1024 c`. -/
theorem col_blk (c : Dev nD) (l : Fin 512) {k : ℕ} (hk : k < 1024) :
    col (n := 1024) (w := 512) (blk X c) l k = col X l (1024 * c.val + k) := by
  have hc : c.val < 32 := c.isLt
  rw [col_of_lt _ _ hk, blk_apply, col_of_lt _ _ (by omega : 1024 * c.val + k < 32768)]

variable (m : (ℓ : Loc nD τ sig) → Buf (Elt Ideal) ℓ) (ρ : Dev nD → PrngReg)

/-- Row `s` of the received sums: the sum of block `s` of the column. -/
theorem comm_apply (hX : ∀ c : Dev nD, m ((c : Thread nD τ).loc main_arg0) = blk X c) (l : Fin 512) {s : ℕ} (hs : s < 32) :
    col (n := 32) (w := 512) (fun y => commAll m ρ (commIx y)) l s = ∑ k ∈ Finset.range 1024, col X l (1024 * s + k) := by
  rw [col_of_lt _ _ hs]
  have hd : dv s = (⟨s, hs⟩ : Dev nD) := Fin.ext (Nat.mod_eq_of_lt hs)
  have e : commAll m ρ (commIx (ix2 (⟨s, hs⟩ : Fin 32) l)) = k0_pay1 (F := Ideal) (blk X ⟨s, hs⟩) (ix2 (0 : Fin 1) l) := by
    show tot m ρ (dv s) _ = _
    unfold tot
    rw [xstg_eq, hX, hd]
    congr 1
    funext a
    match a with
    | ⟨0, _⟩ => rfl
    | ⟨1, _⟩ => rfl
  rw [e, pay1_apply]
  exact Finset.sum_congr rfl fun k hk => col_blk X ⟨s, hs⟩ l (Finset.mem_range.mp hk)

/-- Given the blocks of `X`, row `r`, column `l` of device `c`'s output is that of block `c` of the reference's result. -/
theorem out_apply (hX : ∀ c : Dev nD, m ((c : Thread nD τ).loc main_arg0) = blk X c) (c : Dev nD) (r : Fin 1024) (l : Fin 512) :
    outAt m ρ c (ix2 r l) = blk (Ref.refOut (F := Ideal) X) c (ix2 r l) := by
  have hc : c.val < 32 := c.isLt
  have hr : r.val < 1024 := r.isLt
  rw [blk_apply, refOut_apply]
  unfold outAt
  rw [pay26_apply, scanOf_apply, xstg_eq, hX]
  have h1 : ∑ j ∈ Finset.range (r.val + 1), col (n := 1024) (w := 512) (blk X c) l j
      = ∑ j ∈ Finset.range (r.val + 1), col X l (1024 * c.val + j) :=
    Finset.sum_congr rfl fun j hj => col_blk X c l (by have := Finset.mem_range.mp hj; omega)
  have h2 : ∑ s ∈ Finset.range c.val, col (n := 32) (w := 512) (fun y => commAll m ρ (commIx y)) l s
      = ∑ j ∈ Finset.range (1024 * c.val), col X l j := by
    rw [← sum_blocks 1024 c.val (col X l)]
    exact Finset.sum_congr rfl fun s hs => comm_apply X m ρ hX l (by have := Finset.mem_range.mp hs; omega)
  rw [h1, h2, add_comm]
  exact (Finset.sum_range_add _ _ _).symm

/-- Given the blocks of `X`, device `c`'s output is block `c` of the reference's result of `X`. -/
theorem out_eq_block (hX : ∀ c : Dev nD, m ((c : Thread nD τ).loc main_arg0) = blk X c) (c : Dev nD) :
    outAt m ρ c = blk (Ref.refOut (F := Ideal) X) c := by
  funext (y : S1024x512.Idx)
  have e : y = ix2 (y 0) (y 1) := eq_ix2 (n0 := 1024) (n1 := 512) y
  exact (congrArg (outAt m ρ c) e).trans ((out_apply X m ρ hX c (y 0) (y 1)).trans (congrArg (blk (Ref.refOut (F := Ideal) X) c) e.symm))

end Cert.Scan

end
-- ==== Proof.lean ====
/-
  The claims, assembled: each program ends with its argument unchanged and every counter at zero, and over the extended
  reals each device's result is its block of the reference's result. The run of the kernel (Proof/Run.lean) is stated once,
  over any float values, and read here at each program's own; the equation of the values is Proof/Equation.lean's.
-/
module

public import proofs.«01_k».proof.Defs
public import proofs.«01_k».proof.Proof.Gen.Kernel
public import proofs.«01_k».proof.Proof.Equation
public import Idealize.ShloMosaic.Lib.Quiescent

@[expose] public section

noncomputable section

namespace Cert.Proof

open Idealize.ShloMosaic Idealize.ShloMosaic.TcCoe Idealize.SL.Sem

/-- The kernel as printed and the idealized program have the same device bodies, label by label. -/
theorem bodies_eq : Cert.Kernel.defs₀ (F := Bits) = Cert.KernelIdeal.defs₀ (F := Bits) :=
  congrArg Defs.onTc (funext fun ℓ => funext fun a => by
    rcases ℓ with ⟨_ | _, h⟩
    · rcases a with ⟨t, s⟩
      rfl
    · exact absurd h (by omega))

/-- So they have the same definitions, the launch's own included. -/
theorem defs_eq : Cert.Kernel.defs (F := Bits) = Cert.KernelIdeal.defs (F := Bits) :=
  congrArg (Pipeline.defs _) bodies_eq

/-- The kernel as printed ends with every counter at zero and its argument unchanged: its text is that of the idealized
    program, whose run holds over any float values. -/
theorem frame_kernel : Cert.quiescent_Kernel := fun m ρ _ => by
  rw [defs_eq]
  exact Cert.Scan.run_frame (F := Bits) m ρ

/-- The idealized kernel ends with every counter at zero and its argument unchanged. -/
theorem frame_ideal : Cert.quiescent_KernelIdeal := fun m ρ _ => Cert.Scan.run_frame (F := Ideal) m ρ

/-- The reference ends with its argument unchanged; it has no counters. -/
theorem frame_ref : Cert.quiescent_ReferenceIdeal := fun m ρ _ =>
  (θ_run Cert.ReferenceIdeal.defs _ _).mono
    (fun r h => ⟨fun c => (h c).2, Idealize.ShloMosaic.sem_eq_zero_of_no_sems (by decide) r.2⟩)
    (Cert.Scan.Ref.run_ref (F := Ideal) m ρ)

/-- Given the blocks of the reference's argument, each device's result is its block of the reference's result. -/
theorem equation : Cert.algebraic_KernelIdeal_ReferenceIdeal := fun m ρ m' ρ' _ hX =>
  ⟨Cert.Scan.Ref.refOut (F := Ideal) (m' (((0 : Dev Cert.ReferenceIdeal.nD).tc : Thread _ Cert.ReferenceIdeal.τ).loc Cert.ReferenceIdeal.main_arg0)),
    (θ_run Cert.KernelIdeal.defs _ _).mono
      (fun _ h c => ⟨(h.1 c (1 : Fin 2)).trans ((Cert.Scan.final_out m ρ c).trans (Cert.Scan.out_eq_block _ m ρ hX c)),
        (h.1 c (0 : Fin 2)).trans (Cert.Scan.final_x m ρ c)⟩)
      (Cert.Scan.run_arrays (F := Ideal) m ρ),
    (θ_run Cert.ReferenceIdeal.defs _ _).mono (fun _ h => h 0) (Cert.Scan.Ref.run_ref (F := Ideal) m' ρ')⟩

theorem claim : Cert.Claim := ⟨Cert.Kernel.Gen.facts, Cert.KernelIdeal.Gen.facts, Cert.ReferenceIdeal.Gen.facts,
  frame_kernel, frame_ideal, frame_ref, trivial, equation⟩

end Cert.Proof

end
